-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v11) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x1024 : Shape := ⟨3, ![4, 8192, 1024]⟩
abbrev S4x2 : Shape := ⟨2, ![4, 2]⟩
abbrev S2x1024 : Shape := ⟨2, ![2, 1024]⟩
abbrev S32768x1024 : Shape := ⟨2, ![32768, 1024]⟩
abbrev S8 : Shape := ⟨1, ![8]⟩
abbrev S8x1024 : Shape := ⟨2, ![8, 1024]⟩
abbrev S_ : Shape := ⟨0, ![]⟩
abbrev S1 : Shape := ⟨1, ![1]⟩
abbrev S1x1024 : Shape := ⟨2, ![1, 1024]⟩
abbrev S4x2048 : Shape := ⟨2, ![4, 2048]⟩

abbrev nBuf : Table → Nat
  | .hbm => 7
  | .local .scScalar .smem => 1
  | _ => 0

abbrev bufTy : (tb : Table) → Fin (nBuf tb) → BufTy
  | .hbm, ⟨0, _⟩ => ⟨S4x8192x1024, .f32⟩
  | .hbm, ⟨1, _⟩ => ⟨S4x2, .i32⟩
  | .hbm, ⟨2, _⟩ => ⟨S2x1024, .f32⟩
  | .hbm, ⟨3, _⟩ => ⟨S32768x1024, .f32⟩
  | .hbm, ⟨4, _⟩ => ⟨S8, .i32⟩
  | .hbm, ⟨5, _⟩ => ⟨S8x1024, .f32⟩
  | .hbm, ⟨6, _⟩ => ⟨S4x2048, .f32⟩
  | .local .scScalar .smem, ⟨0, _⟩ => ⟨S8, .i32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scs : Ref sig .scScalar := ⟨.hbm, 3, rfl⟩
abbrev main_v1_scs : Ref sig .scScalar := ⟨.hbm, 4, rfl⟩
abbrev main_arg2_scs : Ref sig .scScalar := ⟨.hbm, 2, rfl⟩
abbrev main_v2_scs : Ref sig .scScalar := ⟨.hbm, 5, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_64 : BitVec 32 := 0#32
  let c8191_i32 : BitVec 32 := 8191#32
  let v80 : BitVec 32 := Scalar.minsi v1 c8191_i32
  let v81 : BitVec 32 := Scalar.addi c0_i32_64 v80
  let c0_i32_67 : BitVec 32 := 0#32
  ![v81.toNat, 0]
def k0_cond1 (v1 : BitVec 32) : BitVec 1 :=
  let c0_i32_0 : BitVec 32 := 0#32
  let v2 : BitVec 1 := Scalar.cmpi .sge v1 c0_i32_0
  let v3 : BitVec 32 := Scalar.extui v2
  let c0_i32_1 : BitVec 32 := 0#32
  let v4 : BitVec 1 := Scalar.cmpi .ne v3 c0_i32_1
  v4

def k0_chk1 (v1 : BitVec 32) : Prop :=
  (∀ (k0_h1 : k0_cond1 v1 = 1#1), ∀ a, (k0_off1 v1) a + S1x1024.size a ≤ S32768x1024.size a)
theorem k0_off1_inb : ∀ (v1 : BitVec 32) (k0_hw1 : k0_chk1 v1), ∀ (k0_h1 : k0_cond1 v1 = 1#1), ∀ a, (k0_off1 v1) a + S1x1024.size a ≤ S32768x1024.size a := fun v1 k0_hw1 k0_h1 => k0_hw1 k0_h1

def k0_off2 (v9 : BitVec 32) : Fin 2 → Nat :=
  let c0_i32_64 : BitVec 32 := 0#32
  let c8191_i32 : BitVec 32 := 8191#32
  let v80 : BitVec 32 := Scalar.minsi v9 c8191_i32
  let v81 : BitVec 32 := Scalar.addi c0_i32_64 v80
  let c0_i32_67 : BitVec 32 := 0#32
  ![v81.toNat, 0]
def k0_cond3 (v9 : BitVec 32) : BitVec 1 :=
  let c0_i32_4 : BitVec 32 := 0#32
  let v10 : BitVec 1 := Scalar.cmpi .sge v9 c0_i32_4
  let v11 : BitVec 32 := Scalar.extui v10
  let c0_i32_5 : BitVec 32 := 0#32
  let v12 : BitVec 1 := Scalar.cmpi .ne v11 c0_i32_5
  v12

def k0_chk2 (v9 : BitVec 32) : Prop :=
  (∀ (k0_h3 : k0_cond3 v9 = 1#1), ∀ a, (k0_off2 v9) a + S1x1024.size a ≤ S32768x1024.size a)
theorem k0_off2_inb : ∀ (v9 : BitVec 32) (k0_hw2 : k0_chk2 v9), ∀ (k0_h3 : k0_cond3 v9 = 1#1), ∀ a, (k0_off2 v9) a + S1x1024.size a ≤ S32768x1024.size a := fun v9 k0_hw2 k0_h3 => k0_hw2 k0_h3

def k0_off3 (v17 : BitVec 32) : Fin 2 → Nat :=
  let c8192_i32 : BitVec 32 := 8192#32
  let c8191_i32 : BitVec 32 := 8191#32
  let v80 : BitVec 32 := Scalar.minsi v17 c8191_i32
  let v81 : BitVec 32 := Scalar.addi c8192_i32 v80
  let c0_i32_66 : BitVec 32 := 0#32
  ![v81.toNat, 0]
def k0_cond5 (v17 : BitVec 32) : BitVec 1 :=
  let c0_i32_8 : BitVec 32 := 0#32
  let v18 : BitVec 1 := Scalar.cmpi .sge v17 c0_i32_8
  let v19 : BitVec 32 := Scalar.extui v18
  let c0_i32_9 : BitVec 32 := 0#32
  let v20 : BitVec 1 := Scalar.cmpi .ne v19 c0_i32_9
  v20

def k0_chk3 (v17 : BitVec 32) : Prop :=
  (∀ (k0_h5 : k0_cond5 v17 = 1#1), ∀ a, (k0_off3 v17) a + S1x1024.size a ≤ S32768x1024.size a)
theorem k0_off3_inb : ∀ (v17 : BitVec 32) (k0_hw3 : k0_chk3 v17), ∀ (k0_h5 : k0_cond5 v17 = 1#1), ∀ a, (k0_off3 v17) a + S1x1024.size a ≤ S32768x1024.size a := fun v17 k0_hw3 k0_h5 => k0_hw3 k0_h5

def k0_off4 (v25 : BitVec 32) : Fin 2 → Nat :=
  let c8192_i32 : BitVec 32 := 8192#32
  let c8191_i32 : BitVec 32 := 8191#32
  let v80 : BitVec 32 := Scalar.minsi v25 c8191_i32
  let v81 : BitVec 32 := Scalar.addi c8192_i32 v80
  let c0_i32_66 : BitVec 32 := 0#32
  ![v81.toNat, 0]
def k0_cond7 (v25 : BitVec 32) : BitVec 1 :=
  let c0_i32_12 : BitVec 32 := 0#32
  let v26 : BitVec 1 := Scalar.cmpi .sge v25 c0_i32_12
  let v27 : BitVec 32 := Scalar.extui v26
  let c0_i32_13 : BitVec 32 := 0#32
  let v28 : BitVec 1 := Scalar.cmpi .ne v27 c0_i32_13
  v28

def k0_chk4 (v25 : BitVec 32) : Prop :=
  (∀ (k0_h7 : k0_cond7 v25 = 1#1), ∀ a, (k0_off4 v25) a + S1x1024.size a ≤ S32768x1024.size a)
theorem k0_off4_inb : ∀ (v25 : BitVec 32) (k0_hw4 : k0_chk4 v25), ∀ (k0_h7 : k0_cond7 v25 = 1#1), ∀ a, (k0_off4 v25) a + S1x1024.size a ≤ S32768x1024.size a := fun v25 k0_hw4 k0_h7 => k0_hw4 k0_h7

def k0_off5 (v33 : BitVec 32) : Fin 2 → Nat :=
  let c16384_i32 : BitVec 32 := 16384#32
  let c8191_i32 : BitVec 32 := 8191#32
  let v80 : BitVec 32 := Scalar.minsi v33 c8191_i32
  let v81 : BitVec 32 := Scalar.addi c16384_i32 v80
  let c0_i32_66 : BitVec 32 := 0#32
  ![v81.toNat, 0]
def k0_cond9 (v33 : BitVec 32) : BitVec 1 :=
  let c0_i32_16 : BitVec 32 := 0#32
  let v34 : BitVec 1 := Scalar.cmpi .sge v33 c0_i32_16
  let v35 : BitVec 32 := Scalar.extui v34
  let c0_i32_17 : BitVec 32 := 0#32
  let v36 : BitVec 1 := Scalar.cmpi .ne v35 c0_i32_17
  v36

def k0_chk5 (v33 : BitVec 32) : Prop :=
  (∀ (k0_h9 : k0_cond9 v33 = 1#1), ∀ a, (k0_off5 v33) a + S1x1024.size a ≤ S32768x1024.size a)
theorem k0_off5_inb : ∀ (v33 : BitVec 32) (k0_hw5 : k0_chk5 v33), ∀ (k0_h9 : k0_cond9 v33 = 1#1), ∀ a, (k0_off5 v33) a + S1x1024.size a ≤ S32768x1024.size a := fun v33 k0_hw5 k0_h9 => k0_hw5 k0_h9

def k0_off6 (v41 : BitVec 32) : Fin 2 → Nat :=
  let c16384_i32 : BitVec 32 := 16384#32
  let c8191_i32 : BitVec 32 := 8191#32
  let v80 : BitVec 32 := Scalar.minsi v41 c8191_i32
  let v81 : BitVec 32 := Scalar.addi c16384_i32 v80
  let c0_i32_66 : BitVec 32 := 0#32
  ![v81.toNat, 0]
def k0_cond11 (v41 : BitVec 32) : BitVec 1 :=
  let c0_i32_20 : BitVec 32 := 0#32
  let v42 : BitVec 1 := Scalar.cmpi .sge v41 c0_i32_20
  let v43 : BitVec 32 := Scalar.extui v42
  let c0_i32_21 : BitVec 32 := 0#32
  let v44 : BitVec 1 := Scalar.cmpi .ne v43 c0_i32_21
  v44

def k0_chk6 (v41 : BitVec 32) : Prop :=
  (∀ (k0_h11 : k0_cond11 v41 = 1#1), ∀ a, (k0_off6 v41) a + S1x1024.size a ≤ S32768x1024.size a)
theorem k0_off6_inb : ∀ (v41 : BitVec 32) (k0_hw6 : k0_chk6 v41), ∀ (k0_h11 : k0_cond11 v41 = 1#1), ∀ a, (k0_off6 v41) a + S1x1024.size a ≤ S32768x1024.size a := fun v41 k0_hw6 k0_h11 => k0_hw6 k0_h11

def k0_off7 (v49 : BitVec 32) : Fin 2 → Nat :=
  let c24576_i32 : BitVec 32 := 24576#32
  let c8191_i32 : BitVec 32 := 8191#32
  let v80 : BitVec 32 := Scalar.minsi v49 c8191_i32
  let v81 : BitVec 32 := Scalar.addi c24576_i32 v80
  let c0_i32_66 : BitVec 32 := 0#32
  ![v81.toNat, 0]
def k0_cond13 (v49 : BitVec 32) : BitVec 1 :=
  let c0_i32_24 : BitVec 32 := 0#32
  let v50 : BitVec 1 := Scalar.cmpi .sge v49 c0_i32_24
  let v51 : BitVec 32 := Scalar.extui v50
  let c0_i32_25 : BitVec 32 := 0#32
  let v52 : BitVec 1 := Scalar.cmpi .ne v51 c0_i32_25
  v52

def k0_chk7 (v49 : BitVec 32) : Prop :=
  (∀ (k0_h13 : k0_cond13 v49 = 1#1), ∀ a, (k0_off7 v49) a + S1x1024.size a ≤ S32768x1024.size a)
theorem k0_off7_inb : ∀ (v49 : BitVec 32) (k0_hw7 : k0_chk7 v49), ∀ (k0_h13 : k0_cond13 v49 = 1#1), ∀ a, (k0_off7 v49) a + S1x1024.size a ≤ S32768x1024.size a := fun v49 k0_hw7 k0_h13 => k0_hw7 k0_h13

def k0_off8 (v57 : BitVec 32) : Fin 2 → Nat :=
  let c24576_i32 : BitVec 32 := 24576#32
  let c8191_i32 : BitVec 32 := 8191#32
  let v80 : BitVec 32 := Scalar.minsi v57 c8191_i32
  let v81 : BitVec 32 := Scalar.addi c24576_i32 v80
  let c0_i32_66 : BitVec 32 := 0#32
  ![v81.toNat, 0]
def k0_cond15 (v57 : BitVec 32) : BitVec 1 :=
  let c0_i32_28 : BitVec 32 := 0#32
  let v58 : BitVec 1 := Scalar.cmpi .sge v57 c0_i32_28
  let v59 : BitVec 32 := Scalar.extui v58
  let c0_i32_29 : BitVec 32 := 0#32
  let v60 : BitVec 1 := Scalar.cmpi .ne v59 c0_i32_29
  v60

def k0_chk8 (v57 : BitVec 32) : Prop :=
  (∀ (k0_h15 : k0_cond15 v57 = 1#1), ∀ a, (k0_off8 v57) a + S1x1024.size a ≤ S32768x1024.size a)
theorem k0_off8_inb : ∀ (v57 : BitVec 32) (k0_hw8 : k0_chk8 v57), ∀ (k0_h15 : k0_cond15 v57 = 1#1), ∀ a, (k0_off8 v57) a + S1x1024.size a ≤ S32768x1024.size a := fun v57 k0_hw8 k0_h15 => k0_hw8 k0_h15

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192x1024 : Shape := ⟨3, ![4, 8192, 1024]⟩
abbrev S4x2 : Shape := ⟨2, ![4, 2]⟩
abbrev S2x1024 : Shape := ⟨2, ![2, 1024]⟩
abbrev S_ : Shape := ⟨0, ![]⟩
abbrev S4x2x1 : Shape := ⟨3, ![4, 2, 1]⟩
abbrev S1 : Shape := ⟨1, ![1]⟩
abbrev S1x1x1 : Shape := ⟨3, ![1, 1, 1]⟩
abbrev S4x2x1024 : Shape := ⟨3, ![4, 2, 1024]⟩
abbrev S1x2x1024 : Shape := ⟨3, ![1, 2, 1024]⟩
abbrev S4x2048 : Shape := ⟨2, ![4, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x2, .i32⟩
  | .hbm, ⟨2, _⟩ => ⟨S2x1024, .f32⟩
  | .hbm, ⟨3, _⟩ => ⟨S_, .i32⟩
  | .hbm, ⟨4, _⟩ => ⟨S4x2, .i32⟩
  | .hbm, ⟨5, _⟩ => ⟨S4x2, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4x2, .i32⟩
  | .hbm, ⟨10, _⟩ => ⟨S4x2, .i32⟩
  | .hbm, ⟨11, _⟩ => ⟨S_, .i32⟩
  | .hbm, ⟨12, _⟩ => ⟨S4x2, .i32⟩
  | .hbm, ⟨13, _⟩ => ⟨S4x2, .i32⟩
  | .hbm, ⟨14, _⟩ => ⟨S4x2x1, .i32⟩
  | .hbm, ⟨15, _⟩ => ⟨S_, .i32⟩
  | .hbm, ⟨16, _⟩ => ⟨S4x2x1, .i32⟩
  | .hbm, ⟨17, _⟩ => ⟨S4x2x1, .i1⟩
  | .hbm, ⟨18, _⟩ => ⟨S_, .i32⟩
  | .hbm, ⟨19, _⟩ => ⟨S4x2x1, .i32⟩
  | .hbm, ⟨20, _⟩ => ⟨S4x2x1, .i32⟩
  | .hbm, ⟨21, _⟩ => ⟨S4x2x1, .i32⟩
  | .hbm, ⟨22, _⟩ => ⟨S1, .i32⟩
  | .hbm, ⟨23, _⟩ => ⟨S_, .i32⟩
  | .hbm, ⟨24, _⟩ => ⟨S4x2x1, .i32⟩
  | .hbm, ⟨25, _⟩ => ⟨S4x2x1, .i1⟩
  | .hbm, ⟨26, _⟩ => ⟨S1x1x1, .i32⟩
  | .hbm, ⟨27, _⟩ => ⟨S4x2x1, .i32⟩
  | .hbm, ⟨28, _⟩ => ⟨S4x2x1, .i1⟩
  | .hbm, ⟨29, _⟩ => ⟨S4x2x1, .i1⟩
  | .hbm, ⟨30, _⟩ => ⟨S_, .i1⟩
  | .hbm, ⟨31, _⟩ => ⟨S4x2, .i1⟩
  | .hbm, ⟨32, _⟩ => ⟨S4x2x1024, .f32⟩
  | .hbm, ⟨33, _⟩ => ⟨S4x2x1024, .i1⟩
  | .hbm, ⟨34, _⟩ => ⟨S_, .f32⟩
  | .hbm, ⟨35, _⟩ => ⟨S4x2x1024, .f32⟩
  | .hbm, ⟨36, _⟩ => ⟨S4x2x1024, .f32⟩
  | .hbm, ⟨37, _⟩ => ⟨S1x2x1024, .f32⟩
  | .hbm, ⟨38, _⟩ => ⟨S4x2x1024, .f32⟩
  | .hbm, ⟨39, _⟩ => ⟨S_, .i32⟩
  | .hbm, ⟨40, _⟩ => ⟨S4x2, .i32⟩
  | .hbm, ⟨41, _⟩ => ⟨S4x2, .i1⟩
  | .hbm, ⟨42, _⟩ => ⟨S4x2x1, .i1⟩
  | .hbm, ⟨43, _⟩ => ⟨S4x2x1024, .i1⟩
  | .hbm, ⟨44, _⟩ => ⟨S4x2x1024, .f32⟩
  | .hbm, ⟨45, _⟩ => ⟨S4x2048, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_c_1 : Ref sig .tc := ⟨.hbm, 22, rfl⟩
abbrev main_call1_c_2 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_cst : Ref sig .tc := ⟨.hbm, 34, rfl⟩
abbrev main_call1_v14 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c_2 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_call2_v0 : Ref sig .tc := ⟨.hbm, 43, rfl⟩
abbrev main_v10 : Ref sig .tc := ⟨.hbm, 44, rfl⟩
abbrev main_v11 : Ref sig .tc := ⟨.hbm, 45, rfl⟩

abbrev nD : Nat := 1
abbrev τ : Topo := Topo.v7x

variable {F : FTy → Type} [FloatOps F]
-- ==== Proof.Setup.lean ====
/-
  The kernel as the launch theorem sees it, the names of its buffers, and the plain facts about its words:
  which rows a word selects, and that the range check the program carries holds for every word.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.WordCmp
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts about the launch's semaphores and the SparseCores' buffers, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes, and the counters of the copies in flight -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Buffers -/

abbrev hsLoc (d : Dev nD) : Loc nD τ sig := (SparseCore.T d).loc main_v0
abbrev ixLoc (d : Dev nD) : Loc nD τ sig := (SparseCore.T d).loc main_v1
abbrev miLoc (d : Dev nD) : Loc nD τ sig := (SparseCore.T d).loc main_arg2
abbrev ouLoc (d : Dev nD) : Loc nD τ sig := (SparseCore.T d).loc main_v2

abbrev hsM : Memref sig .scScalar .hbm S32768x1024 .f32 := Memref.whole main_v0_scs
abbrev ixM : Memref sig .scScalar .hbm S8 .i32 := Memref.whole main_v1_scs
abbrev miM : Memref sig .scScalar .hbm S2x1024 .f32 := Memref.whole main_arg2_scs
abbrev ouM : Memref sig .scScalar .hbm S8x1024 .f32 := Memref.whole main_v2_scs
abbrev scM : Memref sig .scScalar .smem S8 .i32 := Memref.whole cc0_scratch0

/-- The scalar subcore that runs the kernel at grid point `L`. -/
abbrev cS (L : grid0.Coords) : Fin τ.nSC := (L 0).castLE hcore0

/-! ## Words -/

/-- A word that asks for the missing row. -/
abbrev neg (w : BitVec 32) : Prop := 2147483648 ≤ w.toNat

/-- The program turns a comparison into a branch by widening it and testing it against zero. -/
theorem cond_ofBool (b : Bool) :
    Scalar.cmpi .ne (Scalar.extui (BitVec.ofBool b)) 0#32 = 1#1 ↔ b = true := by
  cases b <;> decide

theorem cond_sge (w : BitVec 32) : Scalar.cmpi .ne (Scalar.extui (Scalar.cmpi .sge w 0#32)) 0#32 = 1#1 ↔ ¬ neg w := by
  rw [show Scalar.cmpi .sge w 0#32 = _ from WordCmp.cmpi_sge_zero w, cond_ofBool, decide_eq_true_iff, neg]
  omega

theorem cond_slt (w : BitVec 32) : Scalar.cmpi .ne (Scalar.extui (Scalar.cmpi .slt w 0#32)) 0#32 = 1#1 ↔ neg w := by
  rw [show Scalar.cmpi .slt w 0#32 = _ from WordCmp.cmpi_slt_zero w, cond_ofBool, decide_eq_true_iff, neg]
  omega

/-- The row of the hidden states that row `k` of the output takes, at a word that is not negative. -/
def srow (k : ℕ) (w : BitVec 32) : ℕ := (k / 2) * 8192 + min w.toNat 8191

theorem srow_lt {k : ℕ} (hk : k < 8) (w : BitVec 32) : srow k w < 32768 := by unfold srow; omega

/-- The first coordinate of every source window, as the program computes it. -/
theorem off_word {w : BitVec 32} (h : ¬ neg w) {c : BitVec 32} {b : ℕ} (hc : c.toNat = b) (hb : b ≤ 24576) :
    (Scalar.addi c (Scalar.minsi w 8191#32)).toNat = b + min w.toNat 8191 := by
  have h' : w.toNat < 2147483648 := by simpa [neg] using h
  have hm : (Scalar.minsi w 8191#32).toNat = min w.toNat 8191 := by
    simp only [Scalar.minsi, IntOp.minsi, BitVec.slt, BitVec.toInt_eq_toNat_of_lt (x := w) (by omega)]
    by_cases h2 : w.toNat < 8191
    · rw [if_pos (by simpa using h2)]; omega
    · rw [if_neg (by simpa using h2)]; simp; omega
  simp only [Scalar.addi, IntOp.addi, BitVec.toNat_add, hm, hc]
  omega

end Cert.Proof

end
-- ==== Proof.Rows.lean ====
/-
  Rows as sets of elements, the value of the output, and what one copy of one row moves.
-/
module

public import proofs.«01_k».proof.Proof.Setup
public import Idealize.ShloMosaic.Lib.ValueIdxCore

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Rows -/

/-- The elements of row `r` of an array of rows of 1024. -/
def rowSet {n : ℕ} (r : ℕ) : Finset (⟨2, ![n, 1024]⟩ : Shape).Idx := Finset.univ.filter fun x => (x 0).val = r

theorem mem_rowSet {n r : ℕ} {x : (⟨2, ![n, 1024]⟩ : Shape).Idx} : x ∈ rowSet r ↔ (x 0).val = r := by
  simp [rowSet]

/-- A window of one row is the row. -/
theorem set_row {n r : ℕ} {off : Fin 2 → ℕ} {inb} (h : off = ![r, 0]) :
    (Rect.unit (s := ⟨2, ![n, 1024]⟩) off S1x1024.size inb).set = rowSet r := by
  subst h
  ext x
  rw [Rect.mem_set_unit, mem_rowSet, Fin.forall_fin_two]
  have h1 : (x 1).val < 1024 := (x 1).isLt
  simp
  omega

/-- A window's element in row and column. -/
theorem emb_row {n r : ℕ} {off : Fin 2 → ℕ} {inb} (h : off = ![r, 0]) (x : S1x1024.Idx) :
    ((Rect.unit (s := ⟨2, ![n, 1024]⟩) off S1x1024.size inb).emb x 0).val = r
      ∧ ((Rect.unit (s := ⟨2, ![n, 1024]⟩) off S1x1024.size inb).emb x 1).val = (x 1).val := by
  subst h
  have h0 : (x 0).val < 1 := (x 0).isLt
  simp [Rect.emb_apply]
  omega

/-! ## What the output holds -/

variable (H : S32768x1024.Idx → Elt F .f32) (I : S8.Idx → Elt F .i32) (M : S2x1024.Idx → Elt F .f32)

/-- The word that row `k` of the output is selected by. -/
def word (k : ℕ) : BitVec 32 := if h : k < 8 then I (ix1 ⟨k, h⟩) else 0

/-- The output, element by element. -/
def OUT : S8x1024.Idx → Elt F .f32 := fun x =>
  if neg (word I (x 0).val) then M (ix2 ⟨(x 0).val % 2, by omega⟩ (x 1))
  else H (ix2 ⟨srow (x 0).val (word I (x 0).val), srow_lt (x 0).isLt _⟩ (x 1))

/-- A window of one row, element by element: its element in column `y` is the row's. -/
theorem emb_row_eq {n r : ℕ} (hr : r < n) {off : Fin 2 → ℕ} {inb} (h : off = ![r, 0]) (y : Fin 1024) :
    (Rect.unit (s := ⟨2, ![n, 1024]⟩) off S1x1024.size inb).emb (ix2 (0 : Fin 1) y) = ix2 ⟨r, hr⟩ y := by
  obtain ⟨h0, h1⟩ := emb_row (inb := inb) h (ix2 (0 : Fin 1) y)
  rw [eq_ix2 ((Rect.unit (s := ⟨2, ![n, 1024]⟩) off S1x1024.size inb).emb (ix2 (0 : Fin 1) y))]
  congr 1
  · exact Fin.ext h0
  · exact Fin.ext h1

theorem mem_rowSet_eq {n r : ℕ} (hr : r < n) {y : (⟨2, ![n, 1024]⟩ : Shape).Idx} (h : y ∈ rowSet r) : y = ix2 ⟨r, hr⟩ (y 1) := by
  rw [mem_rowSet] at h
  conv_lhs => rw [eq_ix2 y]
  congr 1
  exact Fin.ext h

/-- The output's row `k` as the copies write it, and a row of a source as they read it. -/
abbrev ouRow (k : ℕ) (inb : ∀ a, ![k, 0] a + S1x1024.size a ≤ S8x1024.size a) : Memref sig .scScalar .hbm S1x1024 .f32 :=
  ouM.slice (Rect.unit (s := S8x1024) ![k, 0] S1x1024.size inb) (fun _ => rfl)
abbrev hsRow (off : Fin 2 → ℕ) (inb : ∀ a, off a + S1x1024.size a ≤ S32768x1024.size a) : Memref sig .scScalar .hbm S1x1024 .f32 :=
  hsM.slice (Rect.unit (s := S32768x1024) off S1x1024.size inb) (fun _ => rfl)
abbrev miRow (j : ℕ) (inb : ∀ a, ![j, 0] a + S1x1024.size a ≤ S2x1024.size a) : Memref sig .scScalar .hbm S1x1024 .f32 :=
  miM.slice (Rect.unit (s := S2x1024) ![j, 0] S1x1024.size inb) (fun _ => rfl)

/-- What a write of one row of values leaves in row `k` of the output. -/
theorem write_row {k : ℕ} (hk : k < 8) {inb} (fd : S8x1024.Idx → Elt F .f32) (w : S1x1024.Idx → Elt F .f32)
    {y : S8x1024.Idx} (hy : y ∈ rowSet k) :
    (ouRow k inb).view.write (Elt F) fd w Finset.univ y = w (ix2 (0 : Fin 1) (y 1)) := by
  have e : y = (ouRow k inb).view.emb (ix2 (0 : Fin 1) (y 1)) :=
    (mem_rowSet_eq hk hy).trans (emb_row_eq (inb := inb) hk rfl (y 1)).symm
  exact (congrArg ((ouRow k inb).view.write (Elt F) fd w Finset.univ) e).trans
    (View.write_emb_of_mem (Val := Elt F) (v := (ouRow k inb).view) fd w (Finset.mem_univ _))

/-- A row of the hidden states copied onto row `k` of the output leaves what the output should hold there. -/
theorem land_hs {k : ℕ} (hk : k < 8) (hn : ¬ neg (word I k)) {off : Fin 2 → ℕ} {inb inb'} (h : off = ![srow k (word I k), 0])
    (fd : S8x1024.Idx → Elt F .f32) :
    ∀ y ∈ rowSet k, (ouRow k inb).view.write (Elt F) fd ((hsRow off inb').view.read (Elt F) H) Finset.univ y = OUT H I M y := by
  intro y hy
  rw [write_row hk fd _ hy, View.read_apply]
  refine (congrArg H (emb_row_eq (inb := inb') (srow_lt hk _) h (y 1))).trans ?_
  obtain rfl : (y 0).val = k := mem_rowSet.mp hy
  rw [OUT, if_neg hn]

/-- A missing row copied onto row `k` of the output leaves what the output should hold there. -/
theorem land_mi {k j : ℕ} (hk : k < 8) (hj : j = k % 2) (hn : neg (word I k)) {inb inb'}
    (fd : S8x1024.Idx → Elt F .f32) :
    ∀ y ∈ rowSet k, (ouRow k inb).view.write (Elt F) fd ((miRow j inb').view.read (Elt F) M) Finset.univ y = OUT H I M y := by
  intro y hy
  subst hj
  rw [write_row hk fd _ hy, View.read_apply]
  refine (congrArg M (emb_row_eq (inb := inb') (show k % 2 < 2 by omega) rfl (y 1))).trans ?_
  obtain rfl : (y 0).val = k := mem_rowSet.mp hy
  rw [OUT, if_pos hn]

end Cert.Proof

end
-- ==== Proof.Issue.lean ====
/-
  The eight row copies on one semaphore: what each one delivers, what is held back meanwhile, and the rule for
  one row of the program, its two branches at once, with whatever follows it.
-/
module

public import proofs.«01_k».proof.Proof.Rows

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (c : Fin τ.nSC)
variable (H : Buf (Elt F) (hsLoc d)) (I : Buf (Elt F) (ixLoc d)) (M : Buf (Elt F) (miLoc d)) (fo : Buf (Elt F) (ouLoc d))

/-- The read share of row `k`'s copy. -/
abbrev tk (k : Fin 8) : PosShare TreeShare := Transfers.shareTok fullShare 8 k

/-- What row `k` needs to start: the output's row, and its shares of both sources. -/
def Bk (k : Fin 8) : sProp 𝕄 :=
  iprop((ouLoc d ↦[rowSet k.val]{fullShare} fo) ∗ (hsLoc d ↦{tk k} H) ∗ (miLoc d ↦{tk k} M))

/-- What row `k`'s copy delivers: the output's row at its final value, and the source row it read. -/
def Dk (k : Fin 8) : sProp 𝕄 :=
  iprop((ouLoc d ↦[rowSet k.val]{fullShare} (OUT H I M : Buf (Elt F) (ouLoc d)))
    ∗ if neg (word I k.val) then (miLoc d ↦[rowSet (k.val % 2)]{tk k} M) else (hsLoc d ↦[rowSet (srow k.val (word I k.val))]{tk k} H))

/-- What stays with the subcore while row `k` is in flight: the rest of the source read, and the other source's share. -/
def Rk (k : Fin 8) : sProp 𝕄 :=
  if neg (word I k.val) then iprop((hsLoc d ↦{tk k} H) ∗ (miLoc d ↦[Finset.univ \ rowSet (k.val % 2)]{tk k} M))
  else iprop((miLoc d ↦{tk k} M) ∗ (hsLoc d ↦[Finset.univ \ rowSet (srow k.val (word I k.val))]{tk k} H))

/-- A row's shares and its output row again, once it has been delivered. -/
def Ek (k : Fin 8) : sProp 𝕄 :=
  iprop((ouLoc d ↦[rowSet k.val]{fullShare} (OUT H I M : Buf (Elt F) (ouLoc d))) ∗ (hsLoc d ↦{tk k} H) ∗ (miLoc d ↦{tk k} M))

instance Dk_storable (k : Fin 8) : BI.Storable (upEmb : UEmb _ 𝕄) (Dk d H I M k) := by
  unfold Dk
  split <;> infer_instance

theorem row_back (k : Fin 8) : iprop(Dk d H I M k ∗ Rk d H I M k) ⊢ (Ek d H I M k : sProp 𝕄) := by
  unfold Dk Rk Ek
  by_cases h : neg (word I k.val)
  · rw [if_pos h, if_pos h]
    iintro ⟨⟨Ho, Hp⟩, Hh, Hr⟩
    isplitl [Ho]; · iexact Ho
    isplitl [Hh]; · iexact Hh
    iapply (pointsTo_split_subset (Finset.subset_univ _)).2
    isplitl [Hp] <;> iassumption
  · rw [if_neg h, if_neg h]
    iintro ⟨⟨Ho, Hp⟩, Hm, Hr⟩
    isplitl [Ho]; · iexact Ho
    isplitr [Hm]
    · iapply (pointsTo_split_subset (Finset.subset_univ _)).2
      isplitl [Hp] <;> iassumption
    · iexact Hm

/-- The units one row's copy credits. -/
def rowN : ℕ := (ouRow 0 inb_S8x1024_S1x1024_0_0).view.dmaCredit
theorem rowN_pos : 0 < rowN := View.dmaCredit_pos _ (by decide)

/-- The copies on the rows' semaphore, `k` of them started and `u` units waited for. -/
abbrev Bt (k u : ℕ) : sProp 𝕄 :=
  Transfers.Batch countersEmb (S d c) (.dma cc0_scratch1.sem) (default : HIx 1) rowN (Dk d H I M) k u

/-- The state with the first `k` rows started. -/
def St (k : ℕ) : sProp 𝕄 :=
  iprop(Bt d c H I M k 0 ∗ bigSep (Transfers.pending k) (Bk d H M fo) ∗ bigSep (Transfers.issued k) (Rk d H I M))

/-- Row `k` taken out of the state to be started, and put back started. -/
theorem St_take {k : ℕ} (hk : k < 8) :
    (St d c H I M fo k : sProp 𝕄) ⊢ iprop(Bt d c H I M k 0 ∗ Bk d H M fo ⟨k, hk⟩
      ∗ bigSep (Transfers.pending (k + 1)) (Bk d H M fo) ∗ bigSep (Transfers.issued k) (Rk d H I M)) := by
  unfold St
  rw [Transfers.bigSep_pending_step _ k hk]
  iintro ⟨Hb, ⟨Hk, Hp⟩, Hi⟩
  isplitl [Hb]; · iexact Hb
  isplitl [Hk]; · iexact Hk
  isplitl [Hp] <;> iassumption

theorem St_put {k : ℕ} (hk : k < 8) :
    iprop(Bt d c H I M (k + 1) 0 ∗ Rk d H I M ⟨k, hk⟩
      ∗ bigSep (Transfers.pending (k + 1)) (Bk d H M fo) ∗ bigSep (Transfers.issued k) (Rk d H I M)) ⊢ (St d c H I M fo (k + 1) : sProp 𝕄) := by
  unfold St
  rw [Transfers.issued_succ hk, SparseCore.bigSep_insert' (Transfers.not_mem_issued hk)]
  iintro ⟨Hb, Hk, Hp, Hi⟩
  isplitl [Hb]; · iexact Hb
  isplitl [Hp]; · iexact Hp
  isplitl [Hk] <;> iassumption

/-! ## The same buffers named from the subcore -/

theorem pts_ou {k : ℕ} {inb} {q : PosShare TreeShare} (f : Buf (Elt F) (ouLoc d)) :
    ((ouRow k inb).view.loc (S d c) ↦[(ouRow k inb).view.set]{q} f : sProp 𝕄) = ouLoc d ↦[rowSet k]{q} f := by
  rw [show (ouRow k inb).view.set = rowSet k from (View.set_slice_whole _ _).trans (set_row rfl)]
theorem pts_hs {r : ℕ} {off : Fin 2 → ℕ} (hoff : off = ![r, 0]) {inb} {q : PosShare TreeShare} (f : Buf (Elt F) (hsLoc d)) :
    ((hsRow off inb).view.loc (S d c) ↦[(hsRow off inb).view.set]{q} f : sProp 𝕄) = hsLoc d ↦[rowSet r]{q} f := by
  rw [show (hsRow off inb).view.set = rowSet r from (View.set_slice_whole _ _).trans (set_row hoff)]
theorem pts_mi {j : ℕ} {inb} {q : PosShare TreeShare} (f : Buf (Elt F) (miLoc d)) :
    ((miRow j inb).view.loc (S d c) ↦[(miRow j inb).view.set]{q} f : sProp 𝕄) = miLoc d ↦[rowSet j]{q} f := by
  rw [show (miRow j inb).view.set = rowSet j from (View.set_slice_whole _ _).trans (set_row rfl)]

variable {bd : Option 𝒱₀.V}

/-- A row of the hidden states copied onto row `k`. -/
theorem wp_row_hs [FloatOps F] {α : Type} {Q : α → sProp 𝕄} {k : ℕ} (hk : k < 8) (hn : ¬ neg (word I k)) {off : Fin 2 → ℕ} (hoff : off = ![srow k (word I k), 0]) {inb inb'}
    {h1 : (hsRow off inb').view.WordExact} {h2 : (ouRow k inb).view.WordExact} {h3 : DmaTarget.Typed (nD := nD) (τ := τ) (p := .scScalar c) .hbm (.dma cc0_scratch1.sem) (.here (ouRow k inb))}
    {kont : PUnit → Prog (TpuEff nD τ sig (Elt F) Λ₀ (.scScalar c)) α} :
    St d c H I M fo k ⊢ iprop((St d c H I M fo (k + 1) -∗ wp frame (wpE (defs₀ (F := F)) 𝒱₀ (S d c) bd) Set.univ (kont ⟨⟩) Q)
      -∗ wp frame (wpE (defs₀ (F := F)) 𝒱₀ (S d c) bd) Set.univ
        (Prog.lift (TpuEff.enqueueDma (hsRow off inb') (.here (ouRow k inb)) (.dma cc0_scratch1.sem) h1 h2 h3) >>= kont) Q) := by
  simp only [Prog.lift, Prog.bind_op, Prog.bind_ret]
  iintro H Hk
  ihave H' := (St_take d c H I M fo hk) $$ H
  icases H' with ⟨Hb, Hrow, Hp, Hi⟩
  unfold Bk
  icases Hrow with ⟨Ho, Hh, Hm⟩
  ihave Hh' := (pointsTo_split_subset (Finset.subset_univ (rowSet (srow k (word I k))))).1 $$ Hh
  icases Hh' with ⟨Hs, Hr⟩
  iapply (Transfers.wp_dmaBatch countersEmb 𝒱₀ (S d c) bd (D := Dk d H I M) (q := tk ⟨k, hk⟩) (fs := H) (fd := fo)
    (default : HIx 1) rowN rfl (Finset.Subset.refl _) hk (Nat.zero_le _) ?hD) $$ [Hs Ho Hb]
  case hD =>
    rw [pts_ou, pts_hs d c hoff, pointsTo_congr (land_hs H I M hk hn hoff fo)]
    unfold Dk
    rw [if_neg hn]
  · isplitl [Hs]; · rw [pts_hs d c hoff]; iexact Hs
    isplitl [Ho]; · rw [pts_ou]; iexact Ho
    iexact Hb
  iintro Hb
  iapply Hk
  iapply (St_put d c H I M fo hk)
  isplitl [Hb]; · iexact Hb
  isplitl [Hm Hr]
  · unfold Rk; rw [if_neg hn]; isplitl [Hm]
    · iexact Hm
    · iexact Hr
  isplitl [Hp]
  · iexact Hp
  · iexact Hi

/-- A missing row copied onto row `k`. -/
theorem wp_row_mi [FloatOps F] {α : Type} {Q : α → sProp 𝕄} {k j : ℕ} (hk : k < 8) (hj : j = k % 2) (hn : neg (word I k)) {inb inb'}
    {h1 : (miRow j inb').view.WordExact} {h2 : (ouRow k inb).view.WordExact} {h3 : DmaTarget.Typed (nD := nD) (τ := τ) (p := .scScalar c) .hbm (.dma cc0_scratch1.sem) (.here (ouRow k inb))}
    {kont : PUnit → Prog (TpuEff nD τ sig (Elt F) Λ₀ (.scScalar c)) α} :
    St d c H I M fo k ⊢ iprop((St d c H I M fo (k + 1) -∗ wp frame (wpE (defs₀ (F := F)) 𝒱₀ (S d c) bd) Set.univ (kont ⟨⟩) Q)
      -∗ wp frame (wpE (defs₀ (F := F)) 𝒱₀ (S d c) bd) Set.univ
        (Prog.lift (TpuEff.enqueueDma (miRow j inb') (.here (ouRow k inb)) (.dma cc0_scratch1.sem) h1 h2 h3) >>= kont) Q) := by
  simp only [Prog.lift, Prog.bind_op, Prog.bind_ret]
  iintro H Hk
  ihave H' := (St_take d c H I M fo hk) $$ H
  icases H' with ⟨Hb, Hrow, Hp, Hi⟩
  unfold Bk
  icases Hrow with ⟨Ho, Hh, Hm⟩
  ihave Hm' := (pointsTo_split_subset (Finset.subset_univ (rowSet j))).1 $$ Hm
  icases Hm' with ⟨Hs, Hr⟩
  iapply (Transfers.wp_dmaBatch countersEmb 𝒱₀ (S d c) bd (D := Dk d H I M) (q := tk ⟨k, hk⟩) (fs := M) (fd := fo)
    (default : HIx 1) rowN rfl (Finset.Subset.refl _) hk (Nat.zero_le _) ?hD) $$ [Hs Ho Hb]
  case hD =>
    rw [pts_ou, pts_mi, pointsTo_congr (land_mi H I M hk hj hn fo)]
    unfold Dk
    rw [if_pos hn, hj]
  · isplitl [Hs]; · rw [pts_mi]; iexact Hs
    isplitl [Ho]; · rw [pts_ou]; iexact Ho
    iexact Hb
  iintro Hb
  iapply Hk
  iapply (St_put d c H I M fo hk)
  isplitl [Hb]; · iexact Hb
  isplitl [Hh Hr]
  · unfold Rk; rw [if_pos hn, ← hj]; isplitl [Hh]
    · iexact Hh
    · iexact Hr
  isplitl [Hp]
  · iexact Hp
  · iexact Hi

/-- One row of the program: at a word that is not negative the first branch starts a copy, at a negative word the
    second; either way exactly one copy is started, and the rest of the program follows. -/
theorem wp_row [FloatOps F] {α : Type} {Q : α → sProp 𝕄} {k j : ℕ} (hk : k < 8) (hj : j = k % 2) {c1 c2 : Prop} [Decidable c1] [Decidable c2] (hc1 : c1 ↔ ¬ neg (word I k)) (hc2 : c2 ↔ neg (word I k))
    {off : Fin 2 → ℕ} (hoff : ¬ neg (word I k) → off = ![srow k (word I k), 0]) {inb} {inb' : c1 → ∀ a, off a + S1x1024.size a ≤ S32768x1024.size a} {inb''}
    {h1 : ∀ h, (hsRow off (inb' h)).view.WordExact} {h2 : (ouRow k inb).view.WordExact} {h3 : DmaTarget.Typed (nD := nD) (τ := τ) (p := .scScalar c) .hbm (.dma cc0_scratch1.sem) (.here (ouRow k inb))}
    {h4 : (miRow j inb'').view.WordExact} {h5 : (ouRow k inb).view.WordExact} {h6 : DmaTarget.Typed (nD := nD) (τ := τ) (p := .scScalar c) .hbm (.dma cc0_scratch1.sem) (.here (ouRow k inb))}
    {kont : Prog (TpuEff nD τ sig (Elt F) Λ₀ (.scScalar c)) α} :
    St d c H I M fo k ⊢ iprop((St d c H I M fo (k + 1) -∗ wp frame (wpE (defs₀ (F := F)) 𝒱₀ (S d c) bd) Set.univ kont Q)
      -∗ wp frame (wpE (defs₀ (F := F)) 𝒱₀ (S d c) bd) Set.univ
        (dite c1
          (fun h => Prog.lift (TpuEff.enqueueDma (hsRow off (inb' h)) (.here (ouRow k inb)) (.dma cc0_scratch1.sem) (h1 h) h2 h3) >>= fun _ =>
            ite c2 (Prog.lift (TpuEff.enqueueDma (miRow j inb'') (.here (ouRow k inb)) (.dma cc0_scratch1.sem) h4 h5 h6) >>= fun _ => kont) kont)
          (fun _ =>
            ite c2 (Prog.lift (TpuEff.enqueueDma (miRow j inb'') (.here (ouRow k inb)) (.dma cc0_scratch1.sem) h4 h5 h6) >>= fun _ => kont) kont)) Q) := by
  by_cases hn : neg (word I k)
  · rw [dif_neg (fun h => hc1.mp h hn), if_pos (hc2.mpr hn)]
    exact wp_row_mi d c H I M fo hk hj hn (kont := fun _ => kont)
  · rw [dif_pos (hc1.mpr hn), if_neg (fun h => hn (hc2.mp h))]
    exact wp_row_hs d c H I M fo hk hn (hoff hn) (kont := fun _ => kont)

end Cert.Proof

end
-- ==== Proof.Steps.lean ====
/-
  The program's other steps: the copy of the eight words into the scalar memory, the read of one word with the
  range check the program carries (it holds for every word), and the wait for one row.
-/
module

public import proofs.«01_k».proof.Proof.Issue

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (c : Fin τ.nSC)
variable (H : Buf (Elt F) (hsLoc d)) (I : Buf (Elt F) (ixLoc d)) (M : Buf (Elt F) (miLoc d)) (fo : Buf (Elt F) (ouLoc d))
variable {bd : Option 𝒱₀.V}

/-- The subcore's scalar memory of eight words. -/
abbrev scLoc : Loc nD τ sig := (S d c).loc cc0_scratch0

/-! ## What is owed, and what has been waited for -/

/-- The subcore's debts `O`, having waited only on its own semaphores besides `W`. -/
def Ow (O : CellTallies nD τ sig (HIx 1)) (W : Waits sig (HIx 1)) : sProp 𝕄 :=
  iprop(∃ W', ⌜∀ p ∈ W', p ∈ W ∨ p.2 = none⌝ ∗ owes (S d c) O W')

theorem Ow_start {O : CellTallies nD τ sig (HIx 1)} {W : Waits sig (HIx 1)} : owes (S d c) O W ⊢ (Ow d c O W : sProp 𝕄) := by
  unfold Ow
  iintro H
  iexists W
  isplitr
  · ipureintro; exact fun p hp => Or.inl hp
  · iexact H

theorem Ow_insert {O : CellTallies nD τ sig (HIx 1)} {W W' : Waits sig (HIx 1)} {s : SemLoc sig} (h : ∀ p ∈ W', p ∈ W ∨ p.2 = none) :
    owes (S d c) O (insert (s, (default : HIx 1)) W') ⊢ (Ow d c O W : sProp 𝕄) := by
  unfold Ow
  iintro H
  iexists insert (s, (default : HIx 1)) W'
  isplitr
  · ipureintro
    intro p hp
    rcases Finset.mem_insert.mp hp with rfl | hp
    · exact Or.inr rfl
    · exact h p hp
  · iexact H

/-! ## The range check -/

/-- The row a word selects lies in the table of rows. -/
theorem row_inb {k : ℕ} (hk : k < 8) (w : BitVec 32) {off : Fin 2 → ℕ} (h : off = ![srow k w, 0]) :
    ∀ a, off a + S1x1024.size a ≤ S32768x1024.size a := by
  have hr := srow_lt hk w
  subst h
  intro a
  fin_cases a
  · show srow k w + 1 ≤ 32768
    omega
  · show 0 + 1024 ≤ 1024
    omega

/-- The offsets the program computes for row `k`, at a word that is not negative. -/
theorem off_row {k : ℕ} {b : BitVec 32} {w : BitVec 32} (hb : b.toNat = (k / 2) * 8192) (hk : k < 8) (h : ¬ neg w) :
    ![(Scalar.addi b (Scalar.minsi w 8191#32)).toNat, 0] = ![srow k w, 0] := by
  rw [off_word h hb (by omega)]
  rfl

/-- The check the program carries for row `k`. -/
theorem chk_row {k : ℕ} {b : BitVec 32} {w : BitVec 32} (hb : b.toNat = (k / 2) * 8192) (hk : k < 8) {p : Prop} (hp : p ↔ ¬ neg w) (h : p) :
    ∀ a, (![(Scalar.addi b (Scalar.minsi w 8191#32)).toNat, 0] : Fin 2 → ℕ) a + S1x1024.size a ≤ S32768x1024.size a :=
  row_inb hk w (off_row hb hk (hp.mp h))

/-! ## One word -/

/-- A word of the scalar memory read, and its check assumed. -/
theorem wp_word [FloatOps F] {α : Type} {Q : α → sProp 𝕄} {k : ℕ} (hk : k < 8) {chk : BitVec 32 → Prop} {dec : ∀ w, Decidable (chk w)} (hchk : ∀ w, chk w)
    {inb} {h1 h2} {kont : (w : BitVec 32) → PLift (chk w) → Prog (TpuEff nD τ sig (Elt F) Λ₀ (.scScalar c)) α} :
    (scLoc d c ↦{fullShare} (I : Buf (Elt F) (scLoc d c))) ⊢ iprop(((scLoc d c ↦{fullShare} (I : Buf (Elt F) (scLoc d c)))
        -∗ wp frame (wpE (defs₀ (F := F)) 𝒱₀ (S d c) bd) Set.univ (kont (word I k) ⟨hchk (word I k)⟩) Q)
      -∗ wp frame (wpE (defs₀ (F := F)) 𝒱₀ (S d c) bd) Set.univ
        ((smemLoad scM (Rect.unit (s := S8) ![k] S1.size inb) h1 h2 : Prog (TpuEff nD τ sig (Elt F) Λ₀ (.scScalar c)) (Elt F .i32)) >>= fun w =>
          Prog.lift (TpuEff.assume (chk w) (dec w)) >>= fun a => kont w a) Q) := by
  have hw : ∀ x, (scM.access (Rect.unit (s := S8) ![k] S1.size inb)).read (Elt F) (I : Buf (Elt F) (scLoc d c)) x = word I k := by
    intro x
    unfold word
    rw [dif_pos hk]
    show I ((Rect.unit (s := S8) ![k] S1.size inb).emb x) = I (ix1 ⟨k, hk⟩)
    congr 1
    funext a
    have h0 : (x 0).val < 1 := (x 0).isLt
    apply Fin.ext
    fin_cases a
    simp [Rect.emb_apply, ix1]
    omega
  iintro Hs Hk
  unfold smemLoad
  rw [smemLoadElt_bind]
  iapply (wp_smemLoadElt_named (m := scM) (f := (I : Buf (Elt F) (scLoc d c))) 𝒱₀ (S d c) bd Set.univ) $$ Hs
  iintro Hs %w %hww
  rw [hw] at hww
  subst hww
  simp only [Prog.lift, Prog.bind_op, Prog.bind_ret]
  iapply (wp_assume 𝒱₀ (S d c) bd Set.univ (hchk (word I k)))
  iapply Hk $$ Hs

/-! ## The copy of the words -/

/-- The eight words copied into the scalar memory, and the wait for them. -/
theorem wp_words [FloatOps F] {α : Type} {Q : α → sProp 𝕄} {O : CellTallies nD τ sig (HIx 1)} {W : Waits sig (HIx 1)} {fs : Buf (Elt F) (scLoc d c)}
    {h1 h2 h3 h4 h5} {kont : PUnit → Prog (TpuEff nD τ sig (Elt F) Λ₀ (.scScalar c)) α} :
    iprop(Transfers.MayWaits (S d c) (default : HIx 1) O ∗ (ixLoc d ↦{fullShare} I) ∗ (scLoc d c ↦{fullShare} fs)
        ∗ semVal (S d c, SemLoc.dma cc0_scoped0.sem) 0 ∗ Ow d c O W)
      ⊢ iprop((iprop((ixLoc d ↦{fullShare} I) ∗ (scLoc d c ↦{fullShare} (I : Buf (Elt F) (scLoc d c)))
          ∗ semVal (S d c, SemLoc.dma cc0_scoped0.sem) 0 ∗ Ow d c O W)
            -∗ wp frame (wpE (defs₀ (F := F)) 𝒱₀ (S d c) bd) Set.univ (kont ⟨⟩) Q)
        -∗ wp frame (wpE (defs₀ (F := F)) 𝒱₀ (S d c) bd) Set.univ
          (Prog.lift (TpuEff.enqueueDma ixM (.here scM) (.dma cc0_scoped0.sem) h1 h2 h3) >>= fun _ =>
            Prog.lift (TpuEff.waitDma2 cc0_scoped0.sem ixM scM h4 h5) >>= kont) Q) := by
  simp only [Prog.lift, Prog.bind_op, Prog.bind_ret]
  iintro ⟨#Hmw, Hi, Hs, Hv, How⟩ Hk
  unfold Ow
  icases How with ⟨%W', %hW', How⟩
  iapply (Transfers.wp_dmaLocal countersEmb 𝒱₀ (S d c) bd (src := ixM) (dst := scM) (q := fullShare) (fs := I) (fd := fs) (Sd := Finset.univ)
    (default : HIx 1) scM.view.dmaCredit rfl (by decide) (Finset.subset_univ _)) $$ [Hi Hs Hv]
  · isplitl [Hi]
    · rw [show (ixM : Memref sig .scScalar .hbm S8 .i32).view.set = Finset.univ from View.set_whole _]; iexact Hi
    isplitl [Hs]; · iexact Hs
    iexact Hv
  iintro HF
  iapply (Transfers.wp_waitLocalO countersEmb 𝒱₀ (S d c) bd (default : HIx 1) rfl) $$ [HF How]
  · isplitl [HF]; · iexact HF
    isplitl [How]; · iexact How
    iapply (Transfers.MayWaits.elim (SemLoc.dma cc0_scoped0.sem)); iexact Hmw
  iintro ⟨⟨Hs, Hi⟩, Hv, How⟩
  iapply Hk
  isplitl [Hi]
  · rw [show (ixM : Memref sig .scScalar .hbm S8 .i32).view.set = Finset.univ from View.set_whole _]; iexact Hi
  isplitl [Hs]
  · rw [show scM.view.write (Elt F) fs (ReadAs.same.apply (ixM.view.read (Elt F) I)) Finset.univ = (I : Buf (Elt F) (scLoc d c)) from
      View.write_whole_univ _ _ _]
    iexact Hs
  isplitl [Hv]; · iexact Hv
  ihave H := (Ow_insert d c hW') $$ How
  unfold Ow
  iexact H

/-! ## One wait -/

/-- The wait for one row, more rows being still in flight. -/
theorem wp_wait [FloatOps F] {α : Type} {Q : α → sProp 𝕄} {O : CellTallies nD τ sig (HIx 1)} {W : Waits sig (HIx 1)} {k : ℕ} (hk : k < 7) {off} {inb inb'}
    {h1 h2} {kont : PUnit → Prog (TpuEff nD τ sig (Elt F) Λ₀ (.scScalar c)) α} :
    iprop(Transfers.MayWaits (S d c) (default : HIx 1) O ∗ Bt d c H I M 8 (k * rowN) ∗ Ow d c O W)
      ⊢ iprop((iprop(Bt d c H I M 8 ((k + 1) * rowN) ∗ Ow d c O W) -∗ wp frame (wpE (defs₀ (F := F)) 𝒱₀ (S d c) bd) Set.univ (kont ⟨⟩) Q)
        -∗ wp frame (wpE (defs₀ (F := F)) 𝒱₀ (S d c) bd) Set.univ
          (Prog.lift (TpuEff.waitDma2 cc0_scratch1.sem (hsRow off inb') (ouRow k inb) h1 h2) >>= kont) Q) := by
  simp only [Prog.lift, Prog.bind_op, Prog.bind_ret]
  have hN := rowN_pos
  iintro ⟨#Hmw, Hb, How⟩ Hk
  unfold Ow
  icases How with ⟨%W', %hW', How⟩
  iapply (Transfers.wp_waitBatchO countersEmb 𝒱₀ (S d c) bd (hsrc := h1) (hdst := h2) (D := Dk d H I M) (u := k * rowN) (default : HIx 1) (N := rowN) rfl (by nlinarith)) $$ [Hb How]
  · isplitl [Hb]; · iexact Hb
    isplitl [How]; · iexact How
    iapply (Transfers.MayWaits.elim (SemLoc.dma cc0_scratch1.sem)); iexact Hmw
  iintro ⟨Hb, How⟩
  iapply Hk
  isplitl [Hb]; · rw [show (k + 1) * rowN = k * rowN + rowN by ring]; iexact Hb
  ihave H := (Ow_insert d c hW') $$ How
  unfold Ow
  iexact H

/-- The last wait: every row has been delivered, and the semaphore is at zero. -/
theorem wp_wait_last [FloatOps F] {α : Type} {Q : α → sProp 𝕄} {O : CellTallies nD τ sig (HIx 1)} {W : Waits sig (HIx 1)} {off} {inb inb'}
    {h1 h2} {kont : PUnit → Prog (TpuEff nD τ sig (Elt F) Λ₀ (.scScalar c)) α} :
    iprop(Transfers.MayWaits (S d c) (default : HIx 1) O ∗ Bt d c H I M 8 (7 * rowN) ∗ Ow d c O W)
      ⊢ iprop((iprop(bigSep Finset.univ (Dk d H I M) ∗ semVal (S d c, SemLoc.dma cc0_scratch1.sem) 0 ∗ Ow d c O W)
            -∗ wp frame (wpE (defs₀ (F := F)) 𝒱₀ (S d c) bd) Set.univ (kont ⟨⟩) Q)
        -∗ wp frame (wpE (defs₀ (F := F)) 𝒱₀ (S d c) bd) Set.univ
          (Prog.lift (TpuEff.waitDma2 cc0_scratch1.sem (hsRow off inb') (ouRow 7 inb) h1 h2) >>= kont) Q) := by
  simp only [Prog.lift, Prog.bind_op, Prog.bind_ret]
  iintro ⟨#Hmw, Hb, How⟩ Hk
  unfold Ow
  icases How with ⟨%W', %hW', How⟩
  iapply (Transfers.wp_waitBatchLastO countersEmb 𝒱₀ (S d c) bd (hsrc := h1) (hdst := h2) (D := Dk d H I M) (u := 7 * rowN) (default : HIx 1) (N := rowN) rfl rowN_pos (by ring)) $$ [Hb How]
  · isplitl [Hb]; · iexact Hb
    isplitl [How]; · iexact How
    iapply (Transfers.MayWaits.elim (SemLoc.dma cc0_scratch1.sem)); iexact Hmw
  iintro ⟨HD, Hv, How⟩
  iapply Hk
  isplitl [HD]; · iexact HD
  isplitl [Hv]; · iexact Hv
  ihave H := (Ow_insert d c hW') $$ How
  unfold Ow
  iexact H

end Cert.Proof

end
-- ==== Proof.Body.lean ====
/-
  The kernel's body, part by part, and the whole of it.
-/
module

public import proofs.«01_k».proof.Proof.Steps

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords)
variable (H : Buf (Elt F) (hsLoc d)) (I : Buf (Elt F) (ixLoc d)) (M : Buf (Elt F) (miLoc d)) (fo : Buf (Elt F) (ouLoc d))
variable {bd : Option 𝒱₀.V}

/-- The scalar memory holding the eight words. -/
abbrev Sc : sProp 𝕄 := iprop(scLoc d (cS L) ↦{fullShare} (I : Buf (Elt F) (scLoc d (cS L))))

set_option maxHeartbeats 4000000 in
/-- The first part: the words are copied in, and rows 0, 1 and 2 are started. -/
theorem part1 [FloatOps F] {O : CellTallies nD τ sig (HIx 1)} {W : Waits sig (HIx 1)} {fs : Buf (Elt F) (scLoc d (cS L))} :
    iprop(Transfers.MayWaits (S d (cS L)) (default : HIx 1) O ∗ (ixLoc d ↦{fullShare} I) ∗ (scLoc d (cS L) ↦{fullShare} fs)
        ∗ semVal (S d (cS L), SemLoc.dma cc0_scoped0.sem) 0 ∗ Ow d (cS L) O W ∗ St d (cS L) H I M fo 0)
      ⊢ (wp frame (wpE (defs₀ (F := F)) 𝒱₀ (S d (cS L)) bd) Set.univ
          (k0_part1 L hsM (Memref.isWhole_whole _) ixM (Memref.isWhole_whole _) miM (Memref.isWhole_whole _) ouM (Memref.isWhole_whole _) scM (Memref.isWhole_whole _) cc0_scratch1 cc0_scoped0)
          fun r => iprop(⌜r.1 = word I 3⌝ ∗ (ixLoc d ↦{fullShare} I) ∗ Sc d L I
            ∗ semVal (S d (cS L), SemLoc.dma cc0_scoped0.sem) 0 ∗ Ow d (cS L) O W ∗ St d (cS L) H I M fo 3) : sProp 𝕄) := by
  unfold k0_part1
  iintro ⟨Hmw, Hi, Hs, Hv, How, Hst⟩
  iapply (wp_words d (cS L) I) $$ [Hmw Hi Hs Hv How]
  · isplitl [Hmw]; · iexact Hmw
    isplitl [Hi]; · iexact Hi
    isplitl [Hs]; · iexact Hs
    isplitl [Hv]; · iexact Hv
    iexact How
  iintro ⟨Hi, Hs, Hv, How⟩
  iapply (wp_word d (cS L) I (k := 0) (by decide) (chk := k0_chk1) (fun w => chk_row (k := 0) (b := 0#32) rfl (by decide) (cond_sge w))) $$ Hs
  iintro Hs
  iapply (wp_row d (cS L) H I M fo (k := 0) (by decide) rfl (cond_sge _) (cond_slt _) (off_row (b := 0#32) rfl (by decide))) $$ Hst
  iintro Hst
  iapply (wp_word d (cS L) I (k := 1) (by decide) (chk := k0_chk2) (fun w => chk_row (k := 1) (b := 0#32) rfl (by decide) (cond_sge w))) $$ Hs
  iintro Hs
  iapply (wp_row d (cS L) H I M fo (k := 1) (by decide) rfl (cond_sge _) (cond_slt _) (off_row (b := 0#32) rfl (by decide))) $$ Hst
  iintro Hst
  iapply (wp_word d (cS L) I (k := 2) (by decide) (chk := k0_chk3) (fun w => chk_row (k := 2) (b := 8192#32) rfl (by decide) (cond_sge w))) $$ Hs
  iintro Hs
  iapply (wp_row d (cS L) H I M fo (k := 2) (by decide) rfl (cond_sge _) (cond_slt _) (off_row (b := 8192#32) rfl (by decide))) $$ Hst
  iintro Hst
  iapply (wp_word d (cS L) I (k := 3) (by decide) (chk := k0_chk4) (fun w => chk_row (k := 3) (b := 8192#32) rfl (by decide) (cond_sge w))) $$ Hs
  iintro Hs
  rw [wp_pure]
  imodintro
  isplitr; · ipureintro; rfl
  isplitl [Hi]; · iexact Hi
  isplitl [Hs]; · iexact Hs
  isplitl [Hv]; · iexact Hv
  isplitl [How]; · iexact How
  iexact Hst

set_option maxHeartbeats 4000000 in
/-- The second part: rows 3 to 6 are started. -/
theorem part2 [FloatOps F] {v : Elt F .i32} (hv : v = word I 3) (hw : k0_chk4 v) :
    iprop(Sc d L I ∗ St d (cS L) H I M fo 3)
      ⊢ (wp frame (wpE (defs₀ (F := F)) 𝒱₀ (S d (cS L)) bd) Set.univ
          (k0_part2 L hsM (Memref.isWhole_whole _) ixM (Memref.isWhole_whole _) miM (Memref.isWhole_whole _) ouM (Memref.isWhole_whole _) scM (Memref.isWhole_whole _) cc0_scratch1 cc0_scoped0 v hw)
          fun r => iprop(⌜r.1 = word I 7⌝ ∗ Sc d L I ∗ St d (cS L) H I M fo 7) : sProp 𝕄) := by
  subst hv
  unfold k0_part2
  iintro ⟨Hs, Hst⟩
  iapply (wp_row d (cS L) H I M fo (k := 3) (by decide) rfl (cond_sge _) (cond_slt _) (off_row (b := 8192#32) rfl (by decide))) $$ Hst
  iintro Hst
  iapply (wp_word d (cS L) I (k := 4) (by decide) (chk := k0_chk5) (fun w => chk_row (k := 4) (b := 16384#32) rfl (by decide) (cond_sge w))) $$ Hs
  iintro Hs
  iapply (wp_row d (cS L) H I M fo (k := 4) (by decide) rfl (cond_sge _) (cond_slt _) (off_row (b := 16384#32) rfl (by decide))) $$ Hst
  iintro Hst
  iapply (wp_word d (cS L) I (k := 5) (by decide) (chk := k0_chk6) (fun w => chk_row (k := 5) (b := 16384#32) rfl (by decide) (cond_sge w))) $$ Hs
  iintro Hs
  iapply (wp_row d (cS L) H I M fo (k := 5) (by decide) rfl (cond_sge _) (cond_slt _) (off_row (b := 16384#32) rfl (by decide))) $$ Hst
  iintro Hst
  iapply (wp_word d (cS L) I (k := 6) (by decide) (chk := k0_chk7) (fun w => chk_row (k := 6) (b := 24576#32) rfl (by decide) (cond_sge w))) $$ Hs
  iintro Hs
  iapply (wp_row d (cS L) H I M fo (k := 6) (by decide) rfl (cond_sge _) (cond_slt _) (off_row (b := 24576#32) rfl (by decide))) $$ Hst
  iintro Hst
  iapply (wp_word d (cS L) I (k := 7) (by decide) (chk := k0_chk8) (fun w => chk_row (k := 7) (b := 24576#32) rfl (by decide) (cond_sge w))) $$ Hs
  iintro Hs
  rw [wp_pure]
  imodintro
  isplitr; · ipureintro; rfl
  isplitl [Hs]; · iexact Hs
  iexact Hst

theorem Bt_zero [FloatOps F] (c : Fin τ.nSC) : Bt d c H I M 8 0 ⊢ (Bt d c H I M 8 (0 * rowN) : sProp 𝕄) := by
  rw [Nat.zero_mul]

set_option maxHeartbeats 4000000 in
/-- The third part: row 7 is started, and seven rows are waited for. -/
theorem part3 [FloatOps F] {O : CellTallies nD τ sig (HIx 1)} {W : Waits sig (HIx 1)} {v : Elt F .i32} {z : BitVec 32} (hv : v = word I 7) (hw : k0_chk8 v) :
    iprop(Transfers.MayWaits (S d (cS L)) (default : HIx 1) O ∗ Ow d (cS L) O W ∗ St d (cS L) H I M fo 7)
      ⊢ (wp frame (wpE (defs₀ (F := F)) 𝒱₀ (S d (cS L)) bd) Set.univ
          (k0_part3 L hsM (Memref.isWhole_whole _) ixM (Memref.isWhole_whole _) miM (Memref.isWhole_whole _) ouM (Memref.isWhole_whole _) scM (Memref.isWhole_whole _) cc0_scratch1 cc0_scoped0 v hw z)
          fun _ => iprop(Bt d (cS L) H I M 8 (7 * rowN) ∗ bigSep Finset.univ (Rk d H I M) ∗ Ow d (cS L) O W) : sProp 𝕄) := by
  subst hv
  unfold k0_part3
  iintro ⟨#Hmw, How, Hst⟩
  iapply (wp_row d (cS L) H I M fo (k := 7) (by decide) rfl (cond_sge _) (cond_slt _) (off_row (b := 24576#32) rfl (by decide))) $$ Hst
  iintro Hst
  unfold St
  rw [Transfers.issued_all (show 7 + 1 = 8 from rfl)]
  icases Hst with ⟨Hb, -, Hr⟩
  ihave Hb := (Bt_zero d H I M (cS L)) $$ Hb
  iapply (wp_wait d (cS L) H I M (k := 0) (by decide)) $$ [Hb How]
  · isplitr; · iexact Hmw
    isplitl [Hb] <;> iassumption
  iintro ⟨Hb, How⟩
  iapply (wp_wait d (cS L) H I M (k := 1) (by decide)) $$ [Hb How]
  · isplitr; · iexact Hmw
    isplitl [Hb] <;> iassumption
  iintro ⟨Hb, How⟩
  iapply (wp_wait d (cS L) H I M (k := 2) (by decide)) $$ [Hb How]
  · isplitr; · iexact Hmw
    isplitl [Hb] <;> iassumption
  iintro ⟨Hb, How⟩
  iapply (wp_wait d (cS L) H I M (k := 3) (by decide)) $$ [Hb How]
  · isplitr; · iexact Hmw
    isplitl [Hb] <;> iassumption
  iintro ⟨Hb, How⟩
  iapply (wp_wait d (cS L) H I M (k := 4) (by decide)) $$ [Hb How]
  · isplitr; · iexact Hmw
    isplitl [Hb] <;> iassumption
  iintro ⟨Hb, How⟩
  iapply (wp_wait d (cS L) H I M (k := 5) (by decide)) $$ [Hb How]
  · isplitr; · iexact Hmw
    isplitl [Hb] <;> iassumption
  iintro ⟨Hb, How⟩
  iapply (wp_wait d (cS L) H I M (k := 6) (by decide)) $$ [Hb How]
  · isplitr; · iexact Hmw
    isplitl [Hb] <;> iassumption
  iintro ⟨Hb, How⟩
  rw [wp_pure]
  imodintro
  isplitl [Hb]; · iexact Hb
  isplitl [Hr]; · iexact Hr
  iexact How

/-- Every row's output, and its shares of both sources, once all rows are delivered. -/
theorem rows_back : iprop(bigSep Finset.univ (Dk d H I M) ∗ bigSep Finset.univ (Rk d H I M)) ⊢ (bigSep Finset.univ (Ek d H I M) : sProp 𝕄) := by
  rw [← bigSep_sep']
  exact bigSep_mono fun k _ => row_back d H I M k

set_option maxHeartbeats 4000000 in
/-- The whole body: from the start of eight rows, all of them are delivered. -/
theorem pooler_rows [FloatOps F] {O : CellTallies nD τ sig (HIx 1)} {W : Waits sig (HIx 1)} {fs : Buf (Elt F) (scLoc d (cS L))} :
    iprop(Transfers.MayWaits (S d (cS L)) (default : HIx 1) O ∗ (ixLoc d ↦{fullShare} I) ∗ (scLoc d (cS L) ↦{fullShare} fs)
        ∗ semVal (S d (cS L), SemLoc.dma cc0_scoped0.sem) 0 ∗ Ow d (cS L) O W ∗ St d (cS L) H I M fo 0)
      ⊢ (wp frame (wpE (defs₀ (F := F)) 𝒱₀ (S d (cS L)) bd) Set.univ
          (cc0_pooler L hsM (Memref.isWhole_whole _) ixM (Memref.isWhole_whole _) miM (Memref.isWhole_whole _) ouM (Memref.isWhole_whole _) scM (Memref.isWhole_whole _) cc0_scratch1 cc0_scoped0)
          fun _ => iprop((ixLoc d ↦{fullShare} I) ∗ Sc d L I ∗ semVal (S d (cS L), SemLoc.dma cc0_scoped0.sem) 0
            ∗ semVal (S d (cS L), SemLoc.dma cc0_scratch1.sem) 0 ∗ Ow d (cS L) O W ∗ bigSep Finset.univ (Ek d H I M)) : sProp 𝕄) := by
  unfold cc0_pooler
  iintro ⟨#Hmw, Hi, Hs, Hv, How, Hst⟩
  rw [wp_bind]
  ihave Hwp := (part1 d L H I M fo (O := O) (W := W) (fs := fs)) $$ [Hi Hs Hv How Hst]
  · isplitr; · iexact Hmw
    isplitl [Hi]; · iexact Hi
    isplitl [Hs]; · iexact Hs
    isplitl [Hv]; · iexact Hv
    isplitl [How]; · iexact How
    iexact Hst
  iapply (wp_wand Idealize.ShloMosaic.frame (wpE (defs₀ (F := F)) 𝒱₀ (S d (cS L)) bd) Set.univ) $$ Hwp
  iintro %r ⟨%hr, Hi, Hs, Hv, How, Hst⟩
  obtain ⟨v, hw⟩ := r
  change v = word I 3 at hr
  rw [wp_bind]
  ihave Hwp := (part2 d L H I M fo hr hw) $$ [Hs Hst]
  · isplitl [Hs] <;> iassumption
  iapply (wp_wand Idealize.ShloMosaic.frame (wpE (defs₀ (F := F)) 𝒱₀ (S d (cS L)) bd) Set.univ) $$ Hwp
  iintro %r ⟨%hr', Hs, Hst⟩
  obtain ⟨v', hw', z⟩ := r
  change v' = word I 7 at hr'
  rw [wp_bind]
  ihave Hwp := (part3 d L H I M fo (O := O) (W := W) (z := z) hr' hw') $$ [How Hst]
  · isplitr; · iexact Hmw
    isplitl [How] <;> iassumption
  iapply (wp_wand Idealize.ShloMosaic.frame (wpE (defs₀ (F := F)) 𝒱₀ (S d (cS L)) bd) Set.univ) $$ Hwp
  iintro %r ⟨Hb, Hr, How⟩
  iapply (wp_wait_last d (cS L) H I M) $$ [Hb How]
  · isplitr; · iexact Hmw
    isplitl [Hb] <;> iassumption
  iintro ⟨HD, Hv', How⟩
  rw [wp_pure]
  imodintro
  isplitl [Hi]; · iexact Hi
  isplitl [Hs]; · iexact Hs
  isplitl [Hv]; · iexact Hv
  isplitl [Hv']; · iexact Hv'
  isplitl [How]; · iexact How
  iapply (rows_back d H I M)
  isplitl [HD] <;> iassumption

end Cert.Proof

end
-- ==== Proof.Stage.lean ====
/-
  The subcore's own storage, the dealing of rows and read shares, and the body from whole arrays to whole arrays.
-/
module

public import proofs.«01_k».proof.Proof.Body

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay ownSems0 ownCells mem_ownCells ownBufs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (c : Fin τ.nSC)

/-! ## The subcore's semaphores and its scalar memory -/

/-- The semaphore of the copy of the words, and the rows' semaphore. -/
abbrev cIx : GSem nD τ sig := (S d c, SemLoc.dma cc0_scoped0.sem)
abbrev cRow : GSem nD τ sig := (S d c, SemLoc.dma cc0_scratch1.sem)

theorem cRow_ne : cRow d c ≠ cIx d c := fun h =>
  absurd (Prod.mk.inj h).2 (show (SemLoc.dma cc0_scratch1.sem : SemLoc sig) ≠ SemLoc.dma cc0_scoped0.sem by decide)

theorem ownSems_split :
    (ownSems0 (S d c) : sProp 𝕄) = iprop(semVal (cIx d c) 0 ∗ semVal (cRow d c) 0
      ∗ bigSep (((ownCells (S d c)).erase (cIx d c)).erase (cRow d c)) fun g => semVal g 0) := by
  unfold SparseCore.Cfg.ownSems0
  rw [SparseCore.bigSep_erase' ((mem_ownCells (g := cIx d c)).mpr ⟨rfl, by show (SemLoc.dma cc0_scoped0.sem : SemLoc sig).isScoped .scScalar = true; decide⟩),
    SparseCore.bigSep_erase' (Finset.mem_erase.mpr ⟨cRow_ne d c,
      (mem_ownCells (g := cRow d c)).mpr ⟨rfl, by show (SemLoc.dma cc0_scratch1.sem : SemLoc sig).isScoped .scScalar = true; decide⟩⟩)]

/-- The scalar memory among the subcore's buffers. -/
abbrev scRef : DevRef τ sig := Proc.devRef (.scScalar c) (cc0_scratch0 : Ref sig .scScalar)

theorem ownBufs_split :
    (ownBufs (S d c) : sProp 𝕄) = iprop((∃ f, scLoc d c ↦{fullShare} f)
      ∗ bigSep ((SparseCore.Cfg.ownRefs (.scScalar c)).erase (scRef c)) fun b => iprop(∃ f, ((d, b) : Loc nD τ sig) ↦{fullShare} f)) := by
  unfold SparseCore.Cfg.ownBufs
  exact SparseCore.bigSep_erase' (SparseCore.Cfg.mem_ownRefs_of_owner (p := .scScalar c) (b := scRef c) rfl)

/-! ## Rows and shares -/

variable (H : Buf (Elt F) (hsLoc d)) (I : Buf (Elt F) (ixLoc d)) (M : Buf (Elt F) (miLoc d)) (fo : Buf (Elt F) (ouLoc d))

/-- The output whole is its eight rows. -/
theorem out_rows (f : Buf (Elt F) (ouLoc d)) :
    (ouLoc d ↦{fullShare} f : sProp 𝕄) = bigSep Finset.univ fun k : Fin 8 => ouLoc d ↦[rowSet k.val]{fullShare} f := by
  have hU : (Finset.univ : Finset (Idx (ouLoc d))) = Finset.univ.biUnion fun k : Fin 8 => (rowSet (n := 8) k.val : Finset S8x1024.Idx) := by
    ext x
    simp only [Finset.mem_univ, Finset.mem_biUnion, true_and, true_iff]
    exact ⟨⟨((x : S8x1024.Idx) 0).val, ((x : S8x1024.Idx) 0).isLt⟩, mem_rowSet.mpr rfl⟩
  rw [hU]
  exact pointsTo_biUnion (ℓ := ouLoc d) Finset.univ (fun k : Fin 8 => (rowSet (n := 8) k.val : Finset S8x1024.Idx))
    fun k _ k' _ hne => Finset.disjoint_left.mpr fun x h h' => hne (Fin.ext ((mem_rowSet.mp h).symm.trans (mem_rowSet.mp h')))

/-- What is left of the two sources once eight read shares of each are dealt. -/
abbrev left : sProp 𝕄 := iprop((hsLoc d ↦{Transfers.shareDrop fullShare 8} H) ∗ (miLoc d ↦{Transfers.shareDrop fullShare 8} M))

theorem deal : iprop((hsLoc d ↦{fullShare} H) ∗ (miLoc d ↦{fullShare} M) ∗ (ouLoc d ↦{fullShare} fo))
    ⊢ (iprop(left d H M ∗ bigSep Finset.univ (Bk d H M fo)) : sProp 𝕄) := by
  iintro ⟨Hh, Hm, Ho⟩
  ihave Hh := (Transfers.pointsTo_toks_split fullShare 8) $$ Hh
  ihave Hm := (Transfers.pointsTo_toks_split fullShare 8) $$ Hm
  ihave Ho := (Entails.of_eq (out_rows d fo)) $$ Ho
  icases Hh with ⟨Hh0, Hh⟩
  icases Hm with ⟨Hm0, Hm⟩
  isplitl [Hh0 Hm0]
  · isplitl [Hh0] <;> iassumption
  unfold Bk
  rw [bigSep_sep', bigSep_sep']
  isplitl [Ho]; · iexact Ho
  isplitl [Hh]; · iexact Hh
  iexact Hm

theorem gather_back : iprop(left d H M ∗ bigSep Finset.univ (Ek d H I M))
    ⊢ (iprop((hsLoc d ↦{fullShare} H) ∗ (miLoc d ↦{fullShare} M) ∗ (ouLoc d ↦{fullShare} (OUT H I M : Buf (Elt F) (ouLoc d)))) : sProp 𝕄) := by
  unfold Ek
  rw [bigSep_sep', bigSep_sep']
  iintro ⟨⟨Hh0, Hm0⟩, Ho, Hh, Hm⟩
  isplitl [Hh0 Hh]
  · iapply (Transfers.pointsTo_toks_join fullShare 8)
    isplitl [Hh0]; · iexact Hh0
    iexact Hh
  isplitl [Hm0 Hm]
  · iapply (Transfers.pointsTo_toks_join fullShare 8)
    isplitl [Hm0]; · iexact Hm0
    iexact Hm
  iapply (Entails.of_eq (out_rows d _).symm)
  iexact Ho

/-- The start of the rows: nothing started yet. -/
theorem St_start : iprop(Bt d c H I M 0 0 ∗ bigSep Finset.univ (Bk d H M fo)) ⊢ (St d c H I M fo 0 : sProp 𝕄) := by
  unfold St
  rw [Transfers.pending_zero, Transfers.issued_zero, bigSep_empty]
  iintro ⟨Hb, Hr⟩
  isplitl [Hb]; · iexact Hb
  isplitl [Hr]; · iexact Hr
  iempintro

/-! ## The body on whole arrays -/

variable (L : grid0.Coords)

/-- The kernel on one scalar subcore: from the three sources whole and the output at anything, to the sources
    unchanged and the output row by row as the words select, its own storage and semaphores as they were. -/
theorem pooler_body [FloatOps F] (O : CellTallies nD τ sig (HIx 1)) (W : Waits sig (HIx 1)) (hO : ∀ g, O g none = 0) :
    iprop(levAts (K (F := F)).L (K (F := F)).lev ∗ ((hsLoc d ↦{fullShare} H) ∗ (ixLoc d ↦{fullShare} I) ∗ (miLoc d ↦{fullShare} M) ∗ ∃ f, ouLoc d ↦{fullShare} f)
        ∗ scopedBufs (S d (cS L)) ∗ scopedSems0 (S d (cS L)) ∗ owes (S d (cS L)) O W)
      ⊢ (wp frame (wpE (defs₀ (F := F)) 𝒱₀ (S d (cS L)) none) Set.univ
          (cc0_pooler L hsM (Memref.isWhole_whole _) ixM (Memref.isWhole_whole _) miM (Memref.isWhole_whole _) ouM (Memref.isWhole_whole _) scM (Memref.isWhole_whole _) cc0_scratch1 cc0_scoped0)
          fun _ => iprop(((hsLoc d ↦{fullShare} H) ∗ (ixLoc d ↦{fullShare} I) ∗ (miLoc d ↦{fullShare} M) ∗ ouLoc d ↦{fullShare} (OUT H I M : Buf (Elt F) (ouLoc d)))
            ∗ scopedBufs (S d (cS L)) ∗ scopedSems0 (S d (cS L)) ∗ ∃ W', ⌜∀ p ∈ W', p ∈ W ∨ p.2 = none⌝ ∗ owes (S d (cS L)) O W') : sProp 𝕄) := by
  iintro ⟨Hlv, ⟨Hh, Hi, Hm, %fo, Ho⟩, Hsb, Hss, HO⟩
  ihave Hss := (SparseCore.Cfg.scopedSems0_S_elim (Val := Elt F) d (cS L)) $$ Hss
  icases Hss with ⟨Hown, Hsubs⟩
  ihave Hown := (Entails.of_eq (ownSems_split (F := F) d (cS L))) $$ Hown
  icases Hown with ⟨Hv, Hvr, Hrest⟩
  ihave Hsb := ((K (F := F)).scopedBufs_S_elim facts d (cS L)) $$ Hsb
  icases Hsb with ⟨Hbuf, Hbsubs⟩
  ihave Hbuf := (Entails.of_eq (ownBufs_split (F := F) d (cS L))) $$ Hbuf
  icases Hbuf with ⟨⟨%fs, Hs⟩, Hbrest⟩
  ihave Hmw := ((K (F := F)).mayWaits_none (thr := S d (cS L)) hO) $$ Hlv
  ihave How := (Ow_start d (cS L)) $$ HO
  ihave Hdeal := (deal d H M fo) $$ [Hh Hm Ho]
  · isplitl [Hh]; · iexact Hh
    isplitl [Hm]; · iexact Hm
    iexact Ho
  icases Hdeal with ⟨Hleft, Hrows⟩
  imod (Transfers.batch_alloc' countersEmb (S d (cS L)) (default : HIx 1) rowN (Dk d H I M) (E := Set.univ)) $$ Hvr with Hb
  ihave Hst := (St_start d (cS L) H I M fo) $$ [Hb Hrows]
  · isplitl [Hb] <;> iassumption
  ihave Hwp := (pooler_rows d L H I M fo (O := O) (W := W) (fs := fs)) $$ [Hmw Hi Hs Hv How Hst]
  · isplitl [Hmw]; · iexact Hmw
    isplitl [Hi]; · iexact Hi
    isplitl [Hs]; · iexact Hs
    isplitl [Hv]; · iexact Hv
    isplitl [How]; · iexact How
    iexact Hst
  iapply (wp_wand Idealize.ShloMosaic.frame (wpE (defs₀ (F := F)) 𝒱₀ (S d (cS L)) none) Set.univ) $$ Hwp
  iintro %r ⟨Hi, Hs, Hv, Hvr, How, HE⟩
  ihave Hall := (gather_back d H I M) $$ [Hleft HE]
  · isplitl [Hleft] <;> iassumption
  icases Hall with ⟨Hh, Hm, Ho⟩
  isplitl [Hh Hi Hm Ho]
  · isplitl [Hh]; · iexact Hh
    isplitl [Hi]; · iexact Hi
    isplitl [Hm]; · iexact Hm
    iexact Ho
  isplitl [Hs Hbrest Hbsubs]
  · iapply ((K (F := F)).scopedBufs_S_intro facts d (cS L))
    isplitl [Hs Hbrest]
    · rw [ownBufs_split]
      isplitl [Hs]
      · iexists _; iexact Hs
      · iexact Hbrest
    · iexact Hbsubs
  isplitl [Hv Hvr Hrest Hsubs]
  · iapply (SparseCore.Cfg.scopedSems0_S_intro (Val := Elt F) d (cS L))
    isplitl [Hv Hvr Hrest]
    · rw [ownSems_split]
      isplitl [Hv]; · iexact Hv
      isplitl [Hvr]; · iexact Hvr
      iexact Hrest
    · iexact Hsubs
  unfold Ow
  iexact How

end Cert.Proof

end
-- ==== Proof.Launch.lean ====
/-
  The launch: what the call takes and brings back, the program's three reshapes around it, and the run of the
  whole program over any float values.
-/
module

public import proofs.«01_k».proof.Proof.Stage

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.ShloMosaic.Rounds
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (ρ : Dev nD → PrngReg)

/-! ## The contents -/

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

/-- The table of rows: the first argument, its two leading axes flattened. -/
def Hv (d : Dev nD) : Buf (Elt F) (hsLoc d) := shapeCast S32768x1024 (m (aLoc d)) shapeCasts_S4x8192x1024_S32768x1024
/-- The eight words: the second argument flattened. -/
def Iv (d : Dev nD) : Buf (Elt F) (ixLoc d) := shapeCast S8 (m (bLoc d)) shapeCasts_S4x2_S8
/-- The rows the words select. -/
def Ov (d : Dev nD) : Buf (Elt F) (ouLoc d) := OUT (Hv m d) (Iv m d) (m (miLoc d))
/-- The program's result. -/
def Rv (d : Dev nD) : Buf (Elt F) (rLoc d) := shapeCast S4x2048 (Ov m d) shapeCasts_S8x1024_S4x2048

/-! ## What the handshakes carry -/

/-- The call takes the three sources and the output, and brings them back with the output's rows selected. -/
def P : (K (F := F)).Pay (nD := nD) (Val := Elt F) (Name := ℕ) (U := UU) where
  st := fun _ d _ => iprop((hsLoc d ↦{fullShare} Hv m d) ∗ (ixLoc d ↦{fullShare} Iv m d) ∗ (miLoc d ↦{fullShare} m (miLoc d)) ∗ ∃ f, ouLoc d ↦{fullShare} f)
  dn := fun _ d _ => iprop((hsLoc d ↦{fullShare} Hv m d) ∗ (ixLoc d ↦{fullShare} Iv m d) ∗ (miLoc d ↦{fullShare} m (miLoc d)) ∗ ouLoc d ↦{fullShare} Ov m d)
  go := fun _ _ _ _ => iprop(emp)
  td := fun _ _ _ _ => iprop(emp)
  x := fun _ _ => iprop(emp)

instance P_storable : (P (F := F) m).IsStorable where
  st _ d _ := (inferInstance : BI.Storable (upEmb : UEmb _ 𝕄)
    iprop((hsLoc d ↦{fullShare} Hv m d) ∗ (ixLoc d ↦{fullShare} Iv m d) ∗ (miLoc d ↦{fullShare} m (miLoc d)) ∗ ∃ f, ouLoc d ↦{fullShare} f))
  dn _ d _ := (inferInstance : BI.Storable (upEmb : UEmb _ 𝕄)
    iprop((hsLoc d ↦{fullShare} Hv m d) ∗ (ixLoc d ↦{fullShare} Iv m d) ∗ (miLoc d ↦{fullShare} m (miLoc d)) ∗ ouLoc d ↦{fullShare} Ov m d))
  go _ _ _ _ := (inferInstance : BI.Storable (upEmb : UEmb _ 𝕄) (iprop(emp) : sProp 𝕄))
  td _ _ _ _ := (inferInstance : BI.Storable (upEmb : UEmb _ 𝕄) (iprop(emp) : sProp 𝕄))

/-! ## The subcore's obligation -/

def coordsS (c : Fin (grid0.bound 0)) : grid0.Coords := fun | 0 => c | ⟨_ + 1, h⟩ => absurd h (Nat.not_lt.2 (Nat.le_add_left _ _))

theorem defs₀_scalar [FloatOps F] (c : Fin τ.nSC) :
    defs₀ (F := F) (.scScalar c) 0 ()
      = SparseCore.onCore hcore0 (fun c => cc0_pooler (coordsS c) hsM (Memref.isWhole_whole _) ixM (Memref.isWhole_whole _) miM (Memref.isWhole_whole _) ouM (Memref.isWhole_whole _)
          scM (Memref.isWhole_whole _) cc0_scratch1 cc0_scoped0) ⟨⟩ c := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem emp_drop {A B C : sProp 𝕄} : iprop(A ∗ emp ∗ B ∗ C) ⊢ (iprop(A ∗ B ∗ C) : sProp 𝕄) := by
  iintro ⟨HA, -, HB, HC⟩
  isplitl [HA]; · iexact HA
  isplitl [HB] <;> iassumption

theorem scalarObl [FloatOps F] : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (emp_drop.trans (pooler_body d (Hv m d) (Iv m d) (m (miLoc d)) (coordsS ⟨_, hc⟩) O W hO)).trans (wp_mono frame _ _ fun _ => obl_post)

/-! ## The launch element -/

theorem bigSep_nothing {J : Type} (s : Finset J) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The program on the TensorCore -/

abbrev a' : DevRef τ sig := Proc.devRef .tc (main_arg0 : Ref sig .tc)
abbrev b' : DevRef τ sig := Proc.devRef .tc (main_arg1 : Ref sig .tc)
abbrev mi' : DevRef τ sig := Proc.devRef .tc (main_arg2 : Ref sig .tc)
abbrev hs' : DevRef τ sig := Proc.devRef .tc (main_v0 : Ref sig .tc)
abbrev ix' : DevRef τ sig := Proc.devRef .tc (main_v1 : Ref sig .tc)
abbrev ou' : DevRef τ sig := Proc.devRef .tc (main_v2 : Ref sig .tc)
abbrev r' : DevRef τ sig := Proc.devRef .tc (main_v3 : Ref sig .tc)
abbrev opH : HloOp τ sig (Elt F) := StableHlo.reshape main_arg0 main_v0 (rfl : (.f32 : EltTy) = .f32) shapeCasts_S4x8192x1024_S32768x1024
abbrev opI : HloOp τ sig (Elt F) := StableHlo.reshape main_arg1 main_v1 (rfl : (.i32 : EltTy) = .i32) shapeCasts_S4x2_S8
abbrev opR : HloOp τ sig (Elt F) := StableHlo.reshape main_v2 main_v3 (rfl : (.f32 : EltTy) = .f32) shapeCasts_S8x1024_S4x2048

/-- The program's seven arrays. -/
abbrev S7 : Finset (DevRef τ sig) := {a', b', mi', hs', ix', ou', r'}

/-- The seven arrays at given contents. -/
abbrev seven (d : Dev nD) (f0 : Buf (Elt F) (aLoc d)) (f1 : Buf (Elt F) (bLoc d)) (f2 : Buf (Elt F) (miLoc d)) (f3 : Buf (Elt F) (hsLoc d)) (f4 : Buf (Elt F) (ixLoc d))
    (f5 : Buf (Elt F) (ouLoc d)) (f6 : Buf (Elt F) (rLoc d)) : sProp 𝕄 :=
  iprop((aLoc d ↦{fullShare} f0) ∗ (bLoc d ↦{fullShare} f1) ∗ (miLoc d ↦{fullShare} f2) ∗ (hsLoc d ↦{fullShare} f3) ∗ (ixLoc d ↦{fullShare} f4)
    ∗ (ouLoc d ↦{fullShare} f5) ∗ rLoc d ↦{fullShare} f6)

theorem held_S7 (d : Dev nD) (W : Valuation τ sig (Elt F)) :
    (held (T d) S7 W : sProp 𝕄) = seven d (W a') (W b') (W mi') (W hs') (W ix') (W ou') (W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = seven d (W main_arg0) (W main_arg1) (W main_arg2) (W main_v0) (W main_v1) (W main_v2) (W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents at the launch, and before the call. -/
def V0 (d : Dev nD) : Valuation τ sig (Elt F) := fun b => m (d, b)
def V2 (d : Dev nD) : Valuation τ sig (Elt F) := (opI (F := F)).result ((opH (F := F)).result (V0 m d))
/-- After the call: the output's rows selected. -/
def V3 (d : Dev nD) : Valuation τ sig (Elt F) := Function.update (V2 m d) ou' (Ov m d)

theorem unscoped_held (d : Dev nD) : (unscopedBufs d (fun b => m ((SparseCore.T d).loc b)) : sProp 𝕄) = held (T d) S7 (V0 m d) := by
  rw [unscopedBufs_eq, held_S7]; rfl

/-- A buffer neither of the first two reshapes writes is as it was. -/
theorem V2_of_ne (d : Dev nD) {x : DevRef τ sig} (h1 : x ∉ ({ix'} : Finset (DevRef τ sig))) (h2 : x ∉ ({hs'} : Finset (DevRef τ sig))) : V2 m d x = m (d, x) := by
  unfold V2
  rw [(opI (F := F)).result_of_not_mem _ h1, (opH (F := F)).result_of_not_mem _ h2]
  rfl

theorem V2_hs (d : Dev nD) : V2 m d hs' = Hv m d := by
  unfold V2
  rw [(opI (F := F)).result_of_not_mem _ (show hs' ∉ ({ix'} : Finset (DevRef τ sig)) by decide)]
  exact StableHlo.reshape_result _ _ _ _ _ _ _

theorem V2_ix (d : Dev nD) : V2 m d ix' = Iv m d := by
  unfold V2
  refine (StableHlo.reshape_result _ _ _ _ _ _ _).trans ?_
  rw [(opH (F := F)).result_of_not_mem _ (show b' ∉ ({hs'} : Finset (DevRef τ sig)) by decide)]
  rfl

/-- The seven arrays before the call. -/
theorem held_V2 (d : Dev nD) :
    (held (T d) S7 ((opI (F := F)).result ((opH (F := F)).result (V0 m d))) : sProp 𝕄)
      = seven d (m (aLoc d)) (m (bLoc d)) (m (miLoc d)) (Hv m d) (Iv m d) (m (ouLoc d)) (m (rLoc d)) := by
  show held (SparseCore.T d) S7 (V2 m d) = _
  rw [held_S7, V2_of_ne m d (x := a') (by decide) (by decide), V2_of_ne m d (x := b') (by decide) (by decide), V2_of_ne m d (x := mi') (by decide) (by decide),
    V2_of_ne m d (x := ou') (by decide) (by decide), V2_of_ne m d (x := r') (by decide) (by decide), V2_hs, V2_ix]

/-- The seven arrays after it. -/
theorem held_V3 (d : Dev nD) :
    (held (T d) S7 (V3 m d) : sProp 𝕄)
      = seven d (m (aLoc d)) (m (bLoc d)) (m (miLoc d)) (Hv m d) (Iv m d) (Ov m d) (m (rLoc d)) := by
  have hne : ∀ x : DevRef τ sig, x ≠ ou' → V3 m d x = V2 m d x := fun x h => Function.update_of_ne h _ _
  rw [held_S7, hne a' (by decide), hne b' (by decide), hne mi' (by decide), hne hs' (by decide), hne ix' (by decide), hne r' (by decide),
    show V3 m d ou' = Ov m d from Function.update_self _ _ _,
    V2_of_ne m d (x := a') (by decide) (by decide), V2_of_ne m d (x := b') (by decide) (by decide), V2_of_ne m d (x := mi') (by decide) (by decide),
    V2_of_ne m d (x := r') (by decide) (by decide), V2_hs, V2_ix]

/-- What the program leaves: the arguments at their launch contents and the result. -/
abbrev FIN (d : Dev nD) : sProp 𝕄 :=
  iprop((aLoc d ↦{fullShare} m (aLoc d)) ∗ (bLoc d ↦{fullShare} m (bLoc d)) ∗ (miLoc d ↦{fullShare} m (miLoc d)) ∗ rLoc d ↦{fullShare} Rv m d)

/-- The end: the last reshape writes the result. -/
theorem held_end (d : Dev nD) : (held (T d) S7 ((opR (F := F)).result (V3 m d)) : sProp 𝕄) ⊢ FIN m d := by
  have hne : ∀ x : DevRef τ sig, x ∉ ({r'} : Finset (DevRef τ sig)) → x ≠ ou' → x ∉ ({ix'} : Finset (DevRef τ sig)) → x ∉ ({hs'} : Finset (DevRef τ sig))
      → (opR (F := F)).result (V3 m d) x = m (d, x) := fun x h1 h2 h3 h4 =>
    ((opR (F := F)).result_of_not_mem _ h1).trans ((Function.update_of_ne h2 _ _).trans (V2_of_ne m d h3 h4))
  rw [held_S7, hne a' (by decide) (by decide) (by decide) (by decide), hne b' (by decide) (by decide) (by decide) (by decide),
    hne mi' (by decide) (by decide) (by decide) (by decide),
    show (opR (F := F)).result (V3 m d) r' = Rv m d from (StableHlo.reshape_result _ _ _ _ _ _ _).trans (by rw [show V3 m d (Proc.devRef .tc (main_v2 : Ref sig .tc)) = Ov m d from Function.update_self _ _ _]; rfl)]
  iintro ⟨Ha, Hb, Hm, -, -, -, Hr⟩
  isplitl [Ha]; · iexact Ha
  isplitl [Hb]; · iexact Hb
  isplitl [Hm]; · iexact Hm
  iexact Hr

theorem st0_eq (d : Dev nD) : (bigSep Finset.univ fun c : Fin ((K (F := F)).nCore 0) => (P m).st 0 d c)
    = iprop((hsLoc d ↦{fullShare} Hv m d) ∗ (ixLoc d ↦{fullShare} Iv m d) ∗ (miLoc d ↦{fullShare} m (miLoc d)) ∗ ∃ f, ouLoc d ↦{fullShare} f) :=
  bigSep_univ_of_subsingleton (0 : Fin 1)
theorem dn0_eq (d : Dev nD) : (bigSep Finset.univ fun c : Fin ((K (F := F)).nCore 0) => (P m).dn 0 d c)
    = iprop((hsLoc d ↦{fullShare} Hv m d) ∗ (ixLoc d ↦{fullShare} Iv m d) ∗ (miLoc d ↦{fullShare} m (miLoc d)) ∗ ouLoc d ↦{fullShare} Ov m d) :=
  bigSep_univ_of_subsingleton (0 : Fin 1)

theorem hH : (opH (F := F)).bufs ⊆ S7 := show ({a', hs'} : Finset (DevRef τ sig)) ⊆ S7 by decide
theorem hI : (opI (F := F)).bufs ⊆ S7 := show ({b', ix'} : Finset (DevRef τ sig)) ⊆ S7 by decide
theorem hR : (opR (F := F)).bufs ⊆ S7 := show ({ou', r'} : Finset (DevRef τ sig)) ⊆ S7 by decide

/-- The program on one device: two reshapes, the call, and the last reshape. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opH) (S := S7) hH (V := V0 m d)) $$ [Hb Hheld]
  · isplitl [Hb] <;> iassumption
  iintro ⟨Hb, Hheld⟩
  rw [wp_ret]; imodintro
  iapply (wp_hlo_within 𝒱 (SparseCore.T d) none Set.univ (op := opI) (S := S7) hI (V := (opH (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hi, Hm, Hhs, Hix, Ho, Hr⟩
  iapply ((K (F := F)).wp_run (D (F := F)) 𝒱 (EH := EH) (P := P m) κ d 0) $$ [Hst Ha Hi Hm Hhs Hix Ho Hr Hb Hts]
  isplitr; · iexact Hctx
  isplitl [Hst]; · iexact Hst
  isplitl [Hm Hhs Hix Ho]
  · rw [st0_eq]
    isplitl [Hhs]; · iexact Hhs
    isplitl [Hix]; · iexact Hix
    isplitl [Hm]; · iexact Hm
    iexists _; iexact Ho
  iintro ⟨Hst, Hdn⟩
  ihave Hdn := (Entails.of_eq (dn0_eq m d)) $$ Hdn
  icases Hdn with ⟨Hhs, Hix, Hm, Ho⟩
  iapply (wp_hlo_within 𝒱 (SparseCore.T d) none Set.univ (op := opR) (S := S7) hR (V := V3 m d)) $$ [Hb Ha Hi Hm Hhs Hix Ho Hr]
  · isplitl [Hb]; · iexact Hb
    rw [held_V3]
    isplitl [Ha]; · iexact Ha
    isplitl [Hi]; · iexact Hi
    isplitl [Hm]; · iexact Hm
    isplitl [Hhs]; · iexact Hhs
    isplitl [Hix]; · iexact Hix
    isplitl [Ho]; · iexact Ho
    iexact Hr
  iintro ⟨Hb, Hheld⟩
  ihave Hh := (held_end (F := F) m d) $$ Hheld
  rw [wp_ret]; imodintro; imodintro
  isplitl [Hst]; · iexact Hst
  isplitl [Hh]; · iexact Hh
  isplitl [Hb] <;> iassumption

/-- What the claims read of a device's final state. -/
def fq (d : Dev nD) (s' : Phys nD τ sig (Elt F)) : Prop :=
  s'.mem.mem (rLoc d) = Rv m d ∧ s'.mem.mem (aLoc d) = m (aLoc d) ∧ s'.mem.mem (bLoc d) = m (bLoc d) ∧ s'.mem.mem (miLoc d) = m (miLoc d)

/-- A buffer held whole is what the state's memory holds. -/
theorem agree {ℓ : Loc nD τ sig} {f : Buf (Elt F) ℓ} (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  · iexact HSI

theorem hfin (d : Dev nD) (s' : Phys nD τ sig (Elt F)) : iprop(FIN m d ∗ SI s') ⊢ (⌜fq m d s'⌝ : sProp 𝕄) := by
  iintro ⟨⟨Ha, Hb, Hm, Hr⟩, HSI⟩
  ihave H := (agree (ℓ := aLoc d) s') $$ [HSI Ha]
  · isplitl [Ha] <;> iassumption
  icases H with ⟨%ha, HSI⟩
  ihave H := (agree (ℓ := bLoc d) s') $$ [HSI Hb]
  · isplitl [Hb] <;> iassumption
  icases H with ⟨%hb, HSI⟩
  ihave H := (agree (ℓ := miLoc d) s') $$ [HSI Hm]
  · isplitl [Hm] <;> iassumption
  icases H with ⟨%hm, HSI⟩
  ihave H := (agree (ℓ := rLoc d) s') $$ [HSI Hr]
  · isplitl [Hr] <;> iassumption
  icases H with ⟨%hr, -⟩
  ipureintro
  exact ⟨hr, ha, hb, hm⟩

/-! ## The run -/

/-- What a run ends with: the result, the arguments unchanged, every counter at zero. -/
def QC : PUnit × MemSt nD τ sig (Elt F) → Prop := fun r =>
  (∀ c : Dev nD, r.2.mem (rLoc c) = Rv m c ∧ r.2.mem (aLoc c) = m (aLoc c) ∧ r.2.mem (bLoc c) = m (bLoc c) ∧ r.2.mem (miLoc c) = m (miLoc c)) ∧ r.2.sem = fun _ => 0

theorem run_main [FloatOps F] [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Clamp.lean ====
/-
  The reference's index arithmetic, word by word: what clipping a word into the rows of the table gives,
  and that the clipped word is inside the table, so that no wrapping and no filling takes place.
-/
module

public import proofs.«01_k».proof.Proof.Setup
public import Idealize.ShloMosaic.Lib.WordArith

@[expose] public section

noncomputable section

namespace Cert.Proof

open Idealize.ShloMosaic

/-- A word clipped into the rows of one batch of the table. -/
def clip (w : BitVec 32) : BitVec 32 := IntOp.minsi 8191#32 (IntOp.maxsi 0#32 (IntOp.addi w 0#32))

/-- The clipped word as a number: zero below, the last row above, and the word itself between. -/
theorem clip_toNat (w : BitVec 32) : (clip w).toNat = if neg w then 0 else min w.toNat 8191 := by
  have hw : w.toNat < 4294967296 := w.isLt
  have hm : (IntOp.maxsi 0#32 (IntOp.addi w 0#32)).toNat = if neg w then 0 else w.toNat := by
    rw [WordArith.toNat_maxsi_zero]
    simp only [IntOp.addi, BitVec.add_zero, BitVec.toInt_eq_toNat_cond, neg]
    split <;> split <;> omega
  have hlt : (IntOp.maxsi 0#32 (IntOp.addi w 0#32)).toNat < 2147483648 := by
    rw [hm]; unfold neg; split <;> omega
  have h8 : (8191#32 : BitVec 32).toNat = 8191 := rfl
  unfold clip
  rw [WordArith.toNat_minsi_of_lt _ _ (by rw [h8]; omega) (by omega), hm, h8]
  split <;> omega

theorem clip_le (w : BitVec 32) : (clip w).toNat ≤ 8191 := by
  rw [clip_toNat]; split <;> omega

/-- Read as a signed number the clipped word is the same. -/
theorem clip_toInt (w : BitVec 32) : (clip w).toInt = ((clip w).toNat : Int) :=
  BitVec.toInt_eq_toNat_of_lt (by have := clip_le w; omega)

/-- The clipped word is not below the table … -/
theorem clip_sge (w : BitVec 32) : IntOp.cmpi .sge (clip w) 0#32 = 1#1 := by
  have h : (0#32 : BitVec 32).sle (clip w) = true := by
    rw [BitVec.sle_iff_toInt_le, clip_toInt]; simp
  simp only [IntOp.cmpi, h]; rfl

theorem clip_slt (w : BitVec 32) : IntOp.cmpi .slt (clip w) 0#32 = 0#1 := by
  have h : (clip w).slt 0#32 = false := by
    rw [← Bool.not_eq_true, BitVec.slt_iff_toInt_lt, clip_toInt]; simp
  simp only [IntOp.cmpi, h]; rfl

/-- … and not above it. -/
theorem clip_sle (w : BitVec 32) : IntOp.cmpi .sle (clip w) 8191#32 = 1#1 := by
  have h : (clip w).sle 8191#32 = true := by
    rw [BitVec.sle_iff_toInt_le, clip_toInt]
    have := clip_le w
    have h8 : (8191#32 : BitVec 32).toInt = 8191 := rfl
    omega
  simp only [IntOp.cmpi, h]; rfl

/-- A select on "not negative". -/
theorem select_sge {α : Type} (w : BitVec 32) (a b : α) :
    Scalar.select (IntOp.cmpi .sge w 0#32) a b = if neg w then b else a := by
  rw [show IntOp.cmpi .sge w 0#32 = _ from WordCmp.cmpi_sge_zero w]
  unfold Scalar.select neg
  by_cases h : 2147483648 ≤ w.toNat
  · rw [if_pos h, decide_eq_false (by omega)]; rfl
  · rw [if_neg h, decide_eq_true (by omega)]; rfl

end Cert.Proof

end
-- ==== Proof.RefValue.lean ====
/-
  What the reference computes, element by element: position `(b, p, e)` of its result is the missing row's
  element `(p, e)` where the word `(b, p)` is negative, and else the element `e` of the row of batch `b` that the
  word names, the last row where the word is past the end.
-/
module

public import proofs.«01_k».proof.Proof.Clamp
public import proofs.«01_k».proof.Proof.Gen.ReferenceIdeal.Run
public import Idealize.ShloMosaic.Lib.ValueIdxCore
public import Idealize.ShloMosaic.Lib.Pipeline.Value
public import Idealize.ShloMosaic.Lib.ReduceAll

@[expose] public section

noncomputable section

namespace Cert.Proof.Ref

open Cert.ReferenceIdeal Cert.ReferenceIdeal.Gen

open Idealize.ShloMosaic
open Idealize.ShloMosaic.ValueIdx

variable {F : FTy → Type}

/-! ## The indices the reference gathers by -/

/-- The words clipped into the table, with the axis that the gather wants. -/
def clipped (a1 : IVec S4x2 32) : IVec S4x2x1 32 :=
  broadcastInDim S4x2x1 ![0, 1] bcast_S4x2_S4x2x1_0_1 (minsi (broadcastInDim S4x2 ![] bcast_S_S4x2 (id (constantI S_ 32 8191#32))) (maxsi (broadcastInDim S4x2 ![] bcast_S_S4x2 (id (constantI S_ 32 0#32))) (addi a1 (broadcastInDim S4x2 ![] bcast_S_S4x2 (constantI S_ 32 0#32)))))

/-- The clipped words with a negative one counted from the end; none is negative. -/
def wrapped (a1 : IVec S4x2 32) : IVec S4x2x1 32 :=
  select (cmpi .slt (clipped a1) (broadcastInDim S4x2x1 ![] bcast_S_S4x2x1 (constantI S_ 32 0#32))) (addi (clipped a1) (broadcastInDim S4x2x1 ![] bcast_S_S4x2x1 (constantI S_ 32 8192#32))) (clipped a1)

theorem clipped_apply (a1 : IVec S4x2 32) (y : S4x2x1.Idx) : clipped a1 y = clip (a1 (ix2 (y 0) (y 1))) :=
  broadcastInDim_apply _ _ _ y (ix2 (y 0) (y 1)) (fun a => by match a with | ⟨0, _⟩ => rfl | ⟨1, _⟩ => rfl)

theorem wrapped_apply (a1 : IVec S4x2 32) (y : S4x2x1.Idx) : wrapped a1 y = clip (a1 (ix2 (y 0) (y 1))) := by
  show Scalar.select (IntOp.cmpi .slt (clipped a1 y) 0#32) _ (clipped a1 y) = _
  rw [clipped_apply, clip_slt]; rfl

/-- Which of the indices lie inside the table: all of them. -/
def inside (a1 : IVec S4x2 32) : IVec S4x2 1 :=
  Host.reduce IntOp.andi (andi (cmpi .sge (wrapped a1) (broadcastInDim S4x2x1 ![] bcast_S_S4x2x1 (constantI S_ 32 0#32))) (cmpi .sle (wrapped a1) (broadcastInDim S4x2x1 ![0, 1, 2] bcast_S1x1x1_S4x2x1_0_1_2 (broadcastInDim S1x1x1 ![2] bcast_S1_S1x1x1_2 (constantI S1 32 8191#32))))) (constantI S_ 1 1#1) reducesTo_S4x2x1_S4x2_d2 h_S_

theorem inside_apply (a1 : IVec S4x2 32) (y : S4x2.Idx) : inside a1 y = 1#1 :=
  Host.reduce_andi_one _ _ _ _ y rfl fun i => by
    show IntOp.andi (IntOp.cmpi .sge (wrapped a1 i) 0#32) (IntOp.cmpi .sle (wrapped a1 i) 8191#32) = 1#1
    rw [wrapped_apply, clip_sge, clip_sle]; rfl

/-! ## The gather -/

abbrev dims := gather_S4x8192x1024_S4x2x1_S4x2x1024_2_1_0_0_1_2_111024

/-- The gather reads, for `(b, p, e)`, element `e` of the row of batch `b` that the index at `(b, p)` names. -/
theorem gather_apply {α : Type} (x : S4x8192x1024.Idx → α) (idx : IVec S4x2x1 32) (b : Fin 4) (p : Fin 2) (e : Fin 1024)
    (r : Fin 8192) (hr : (idx (ix3 b p (0 : Fin 1))).toInt = (r.val : Int)) :
    Host.gather dims x idx (ix3 b p e) = x (ix3 b r e) := by
  unfold Host.gather
  refine congrArg x (funext fun a => Fin.ext ?_)
  show dims.start (ix3 b p e) idx a + dims.batchCoord (ix3 b p e) a + dims.offCoord (ix3 b p e) a = _
  match a with
  | ⟨0, _⟩ =>
    have hm : (0 : Fin 3) ∈ dims.operandBatchingDims := by decide
    have hk : (0 : Fin 3) ∉ dims.sKept := by decide
    erw [dims.start_batching _ _ _ hm, dims.offCoord_eq_zero _ _ hk]
    unfold GatherDims.batchCoord
    erw [dif_pos hm]
    exact (Nat.add_zero _).trans (Nat.zero_add _)
  | ⟨1, _⟩ =>
    have hm : (1 : Fin 3) ∈ dims.startIndexMap := by decide
    have hb : (1 : Fin 3) ∉ dims.operandBatchingDims := by decide
    have hk : (1 : Fin 3) ∉ dims.sKept := by decide
    erw [dims.batchCoord_eq_zero _ _ hb, dims.offCoord_eq_zero _ _ hk]
    unfold GatherDims.start
    erw [dif_pos hm]
    have hs : dims.siIdx (ix3 b p e) ⟨dims.startIndexMap.idxOf (1 : Fin 3), List.idxOf_lt_length_iff.2 hm⟩ = ix3 b p (0 : Fin 1) := by
      funext c
      match c with
      | ⟨0, _⟩ => rfl
      | ⟨1, _⟩ => rfl
      | ⟨2, _⟩ => rfl
    erw [hs, hr]
    show min (r.val : Int).toNat 8191 + 0 + 0 = r.val
    have := r.isLt
    omega
  | ⟨2, _⟩ =>
    have hm : (2 : Fin 3) ∉ dims.startIndexMap := by decide
    have hb : (2 : Fin 3) ∉ dims.operandBatchingDims := by decide
    have hk : (2 : Fin 3) ∈ dims.sKept := by decide
    erw [dims.batchCoord_eq_zero _ _ hb]
    unfold GatherDims.start GatherDims.offCoord
    erw [dif_neg hm, dif_pos hk]
    exact Nat.zero_add _

/-! ## The result -/

/-- The pooled rows before they are laid out: position `(b, p, e)`. -/
def pooled {α : Type} (a0 : S4x8192x1024.Idx → α) (a1 : IVec S4x2 32) (a2 : S2x1024.Idx → α) (b : Fin 4) (p : Fin 2) (e : Fin 1024) : α :=
  if neg (a1 (ix2 b p)) then a2 (ix2 p e) else a0 (ix3 b ⟨min (a1 (ix2 b p)).toNat 8191, by omega⟩ e)

/-- The reference's last select, over the gathered rows and the missing rows. -/
def chosen [FloatOps F] (a0 : S4x8192x1024.Idx → Elt F .f32) (a1 : IVec S4x2 32) (a2 : S2x1024.Idx → Elt F .f32) : S4x2x1024.Idx → Elt F .f32 :=
  select (broadcastInDim S4x2x1024 ![0, 1, 2] bcast_S4x2x1_S4x2x1024_0_1_2 (broadcastInDim S4x2x1 ![0, 1] bcast_S4x2_S4x2x1_0_1 (cmpi .sge a1 (broadcastInDim S4x2 ![] bcast_S_S4x2 (constantI S_ 32 0#32)))))
    (select (broadcastInDim S4x2x1024 ![0, 1] bcast_S4x2_S4x2x1024_0_1 (inside a1)) (Host.gather dims a0 (wrapped a1)) (broadcastInDim S4x2x1024 ![] bcast_S_S4x2x1024 (constant S_ .f32 0x7FC00000#32)))
    (broadcastInDim S4x2x1024 ![0, 1, 2] bcast_S1x2x1024_S4x2x1024_0_1_2 (broadcastInDim S1x2x1024 ![1, 2] bcast_S2x1024_S1x2x1024_1_2 a2))

theorem chosen_apply [FloatOps F] (a0 : S4x8192x1024.Idx → Elt F .f32) (a1 : IVec S4x2 32) (a2 : S2x1024.Idx → Elt F .f32)
    (b : Fin 4) (p : Fin 2) (e : Fin 1024) : chosen a0 a1 a2 (ix3 b p e) = pooled a0 a1 a2 b p e := by
  have hc : broadcastInDim S4x2x1024 ![0, 1, 2] bcast_S4x2x1_S4x2x1024_0_1_2 (broadcastInDim S4x2x1 ![0, 1] bcast_S4x2_S4x2x1_0_1 (cmpi .sge a1 (broadcastInDim S4x2 ![] bcast_S_S4x2 (constantI S_ 32 0#32)))) (ix3 b p e)
      = IntOp.cmpi .sge (a1 (ix2 b p)) 0#32 := by
    rw [broadcastInDim_apply _ _ _ _ (ix3 b p (0 : Fin 1)) (fun a => by match a with | ⟨0, _⟩ => rfl | ⟨1, _⟩ => rfl | ⟨2, _⟩ => rfl),
      broadcastInDim_apply _ _ _ _ (ix2 b p) (fun a => by match a with | ⟨0, _⟩ => rfl | ⟨1, _⟩ => rfl)]
    rfl
  have hm : broadcastInDim S4x2x1024 ![0, 1, 2] bcast_S1x2x1024_S4x2x1024_0_1_2 (broadcastInDim S1x2x1024 ![1, 2] bcast_S2x1024_S1x2x1024_1_2 a2) (ix3 b p e) = a2 (ix2 p e) := by
    rw [broadcastInDim_apply _ _ _ _ (ix3 (0 : Fin 1) p e) (fun a => by match a with | ⟨0, _⟩ => rfl | ⟨1, _⟩ => rfl | ⟨2, _⟩ => rfl),
      broadcastInDim_apply _ _ _ _ (ix2 p e) (fun a => by match a with | ⟨0, _⟩ => rfl | ⟨1, _⟩ => rfl)]
  have hi : broadcastInDim S4x2x1024 ![0, 1] bcast_S4x2_S4x2x1024_0_1 (inside a1) (ix3 b p e) = 1#1 := by
    rw [broadcastInDim_apply _ _ _ _ (ix2 b p) (fun a => by match a with | ⟨0, _⟩ => rfl | ⟨1, _⟩ => rfl), inside_apply]
  unfold chosen
  show Scalar.select _ (Scalar.select _ _ _) _ = _
  rw [hc, hm, hi, select_sge]
  unfold pooled
  split
  · rfl
  · rename_i hn
    show Host.gather dims a0 (wrapped a1) (ix3 b p e) = _
    refine gather_apply a0 _ b p e _ ?_
    rw [wrapped_apply, clip_toInt, clip_toNat]
    show ((if neg (a1 (ix2 b p)) then _ else _ : ℕ) : Int) = _
    rw [if_neg hn]

/-- The reference's result, at row `b` and column `p * 1024 + e`. -/
theorem result_apply [FloatOps F] (m : (ℓ : Loc nD τ sig) → Buf (Elt F) ℓ) (c : Dev nD) (b : Fin 4) (q : Fin 2048) :
    Cert.ReferenceIdeal.Value.res_out0 m c (ix2 b q)
      = pooled (m ((c.tc : Thread nD τ).loc main_arg0)) (m ((c.tc : Thread nD τ).loc main_arg1)) (m ((c.tc : Thread nD τ).loc main_arg2))
          b ⟨q.val / 1024, by omega⟩ ⟨q.val % 1024, by omega⟩ := by
  rw [← chosen_apply]
  refine shapeCast_apply _ shapeCasts_S4x2x1024_S4x2048 _ _ ?_
  rw [Shape.rowMajor_val_three, Shape.rowMajor_val_two]
  show (b.val * 2 + q.val / 1024) * 1024 + q.val % 1024 = b.val * 2048 + q.val
  omega

end Cert.Proof.Ref

end
-- ==== Proof.Value.lean ====
/-
  What the kernel's result holds, element by element, and that it is what the reference computes: row `2 b + p`
  of the kernel's output is position `(b, p)` of the reference's pooled rows.
-/
module

public import proofs.«01_k».proof.Proof.Launch
public import proofs.«01_k».proof.Proof.RefValue

@[expose] public section

noncomputable section

namespace Cert.Proof

open Cert.KernelIdeal Cert.KernelIdeal.Gen

open Idealize.ShloMosaic
open Idealize.ShloMosaic.ValueIdx

variable {F : FTy → Type}

variable (m : (ℓ : Loc nD τ sig) → Buf (Elt F) ℓ)

/-- The word of output row `2 b + p` is the word `(b, p)`. -/
theorem word_Iv (d : Dev nD) (b : Fin 4) (p : Fin 2) : word (Iv m d) (b.val * 2 + p.val) = m (bLoc d) (ix2 b p) := by
  have h : b.val * 2 + p.val < 8 := by omega
  unfold word
  rw [dif_pos h]
  refine shapeCast_apply _ shapeCasts_S4x2_S8 _ (ix2 b p) ?_
  rw [Shape.rowMajor_val_one, Shape.rowMajor_val_two]
  rfl

/-- Row `8192 b + r` of the table is row `r` of batch `b`. -/
theorem Hv_apply (d : Dev nD) (b : Fin 4) (r : Fin 8192) (e : Fin 1024) {x : Fin 32768} (hx : x.val = b.val * 8192 + r.val) :
    Hv m d (ix2 x e) = m (aLoc d) (ix3 b r e) := by
  refine shapeCast_apply _ shapeCasts_S4x8192x1024_S32768x1024 _ (ix3 b r e) ?_
  rw [Shape.rowMajor_val_three, Shape.rowMajor_val_two]
  show (b.val * 8192 + r.val) * 1024 + e.val = x.val * 1024 + e.val
  rw [hx]

/-- Row `2 b + p` of the kernel's output. -/
theorem Ov_apply (d : Dev nD) (b : Fin 4) (p : Fin 2) (e : Fin 1024) {k : Fin 8} (hk : k.val = b.val * 2 + p.val) :
    Ov m d (ix2 k e) = Ref.pooled (m (aLoc d)) (m (bLoc d)) (m (miLoc d)) b p e := by
  have hw : word (Iv m d) k.val = m (bLoc d) (ix2 b p) := by rw [hk, word_Iv]
  have hp : k.val % 2 = p.val := by omega
  show (if neg (word (Iv m d) k.val) then m (miLoc d) (ix2 ⟨k.val % 2, _⟩ e)
    else Hv m d (ix2 ⟨srow k.val (word (Iv m d) k.val), _⟩ e)) = _
  unfold Ref.pooled
  by_cases h : neg (m (bLoc d) (ix2 b p))
  · rw [if_pos (by rw [hw]; exact h)]
    refine Eq.trans ?_ (if_pos h).symm
    exact congrArg (m (miLoc d)) (congrArg (fun x => ix2 x e) (Fin.ext hp))
  · rw [if_neg (by rw [hw]; exact h)]
    refine Eq.trans ?_ (if_neg h).symm
    refine Hv_apply m d b _ e ?_
    show srow k.val (word (Iv m d) k.val) = _
    rw [hw]
    unfold srow
    exact congrArg (· + min (m (bLoc d) (ix2 b p)).toNat 8191) (show k.val / 2 * 8192 = b.val * 8192 by omega)

/-- The kernel's result, at row `b` and column `p * 1024 + e`. -/
theorem Rv_apply (d : Dev nD) (b : Fin 4) (q : Fin 2048) :
    Rv m d (ix2 b q) = Ref.pooled (m (aLoc d)) (m (bLoc d)) (m (miLoc d)) b ⟨q.val / 1024, by omega⟩ ⟨q.val % 1024, by omega⟩ := by
  rw [← Ov_apply m d b ⟨q.val / 1024, by omega⟩ ⟨q.val % 1024, by omega⟩ (k := ⟨b.val * 2 + q.val / 1024, by omega⟩) rfl]
  refine shapeCast_apply _ shapeCasts_S8x1024_S4x2048 _ _ ?_
  rw [Shape.rowMajor_val_two, Shape.rowMajor_val_two]
  show (b.val * 2 + q.val / 1024) * 1024 + q.val % 1024 = b.val * 2048 + q.val
  omega

/-- From memories that agree on the arguments, kernel and reference compute the same result. -/
theorem result_eq [FloatOps F] (m' : (ℓ : Loc Cert.ReferenceIdeal.nD Cert.ReferenceIdeal.τ Cert.ReferenceIdeal.sig) → Buf (Elt F) ℓ) (d : Dev nD)
    (h0 : m' ((d.tc : Thread Cert.ReferenceIdeal.nD Cert.ReferenceIdeal.τ).loc Cert.ReferenceIdeal.main_arg0) = m (aLoc d))
    (h1 : m' ((d.tc : Thread Cert.ReferenceIdeal.nD Cert.ReferenceIdeal.τ).loc Cert.ReferenceIdeal.main_arg1) = m (bLoc d))
    (h2 : m' ((d.tc : Thread Cert.ReferenceIdeal.nD Cert.ReferenceIdeal.τ).loc Cert.ReferenceIdeal.main_arg2) = m (miLoc d)) :
    Cert.ReferenceIdeal.Value.res_out0 m' d = Rv m d := by
  funext j
  obtain ⟨b, q, rfl⟩ : ∃ (b : Fin 4) (q : Fin 2048), j = ix2 b q := ⟨j 0, j 1, eq_ix2 j⟩
  refine (Ref.result_apply m' d b q).trans ?_
  rw [Rv_apply, h0, h1, h2]

end Cert.Proof

end
-- ==== Proof.Claims.lean ====
/-
  The claims: each program ends, with its arguments as they were and every counter at zero, and kernel and
  reference end with the same result, over the extended reals and word by word.
-/
module

public import proofs.«01_k».proof.Proof.Value
public import proofs.«01_k».proof.Proof.Gen.Kernel
public import proofs.«01_k».proof.Proof.Gen.Reference.Run
public import Idealize.ShloMosaic.Lib.Claim

@[expose] public section

noncomputable section

namespace Cert.Proof

open Idealize.ShloMosaic Idealize.SL.Sem

/-- The ideal kernel's frame. -/
theorem frame_kernelIdeal : Cert.quiescent_KernelIdeal := fun m ρ _ =>
  (θ_run Cert.KernelIdeal.defs _ _).mono (fun _ h => ⟨fun c => (h.1 c).2, h.2⟩) (run_main (F := Ideal) m ρ)

set_option maxHeartbeats 4000000 in
/-- The kernel's run over words: it is the ideal kernel's text, so its run is the same run. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (QC (F := Bits) m) :=
  run_main (F := Bits) m ρ

/-- The kernel's frame. -/
theorem frame_kernel : Cert.quiescent_Kernel := fun m ρ _ =>
  (θ_run Cert.Kernel.defs _ _).mono (fun _ h => ⟨fun c => (h.1 c).2, h.2⟩) (run_kernel m ρ)

/-- The ideal reference's frame; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference's frame; it has no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run m ρ)

/-- Over the extended reals kernel and reference, from the same arguments, end with the same result. -/
theorem algebraic : Cert.algebraic_KernelIdeal_ReferenceIdeal := fun m g m' g' _ hagree =>
  ⟨fun c => Rv m c, (θ_run Cert.KernelIdeal.defs _ _).mono (fun _ h => h.1) (run_main (F := Ideal) m g),
    (θ_run Cert.ReferenceIdeal.defs _ _).mono
      (fun _ h c => ⟨(h c).1.trans (result_eq m m' c (hagree c).1 (hagree c).2.1 (hagree c).2.2), (h c).2⟩)
      (Cert.ReferenceIdeal.Value.run m' g')⟩

/-- The reference's result over words is the ideal reference's text read over words. -/
theorem res_reference (m : (ℓ : Loc Cert.Reference.nD Cert.Reference.τ Cert.Reference.sig) → Buf (Elt Bits) ℓ) (c : Dev Cert.Reference.nD) :
    Cert.Reference.Value.res_out0 (F := Bits) m c = Cert.ReferenceIdeal.Value.res_out0 (F := Bits) m c := rfl

/-- Word by word kernel and reference, from the same arguments, end with the same result. -/
theorem bitexact : Cert.bitexact_Kernel_Reference := fun m g m' g' _ hagree =>
  ⟨fun c => Rv (F := Bits) m c, (θ_run Cert.Kernel.defs _ _).mono (fun _ h => h.1) (run_kernel m g),
    (θ_run Cert.Reference.defs _ _).mono
      (fun _ h c => ⟨((h c).1.trans (res_reference m' c)).trans
        (result_eq (F := Bits) m m' c (hagree c).1 (hagree c).2.1 (hagree c).2.2), (h c).2⟩)
      (Cert.Reference.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The frames of the four programs, and the two value claims. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
